-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 1024, 1024]⟩ ⟨4, ![2, 2, 1024, 1024]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1024x1024 : Shape := ⟨4, ![1, 1, 1024, 1024]⟩
abbrev S1024x1024 : Shape := ⟨2, ![1024, 1024]⟩
abbrev S256x1024 : Shape := ⟨2, ![256, 1024]⟩
abbrev S128x1024 : Shape := ⟨2, ![128, 1024]⟩
abbrev S12 : Shape := ⟨1, ![12]⟩
abbrev S_ : Shape := ⟨0, ![]⟩
abbrev S1x1x256x1024 : Shape := ⟨4, ![1, 1, 256, 1024]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1x1x1024x1024, .bf16⟩
  | .hbm, ⟨1, _⟩ => ⟨S1024x1024, .bf16⟩
  | .local _ .vmem, ⟨0, _⟩ => ⟨S1x1x1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S128x1024, .bf16⟩
  | .local _ .vmem, ⟨5, _⟩ => ⟨S128x1024, .bf16⟩
  | _, _ => ⟨S1x1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) : Fin 4 → Nat :=
  let c0 : Index := 0#32
  let c0_23 : Index := 0#32
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let c256_i32_14 : BitVec 32 := 256#32
  let v21 : BitVec 32 := Scalar.muli v20 c256_i32_14
  let v35 : Index := Scalar.indexCast v21
  let c0_24 : Index := 0#32
  ![0, 0, v35.toNat, 0]
def k0_off2 (d0 : Dev nD) : Fin 2 → Nat :=
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let c256_i32_14 : BitVec 32 := 256#32
  let v21 : BitVec 32 := Scalar.muli v20 c256_i32_14
  let v38 : Index := Scalar.indexCast v21
  let c0_25 : Index := 0#32
  ![v38.toNat, 0]
def k0_off3 (d0 : Dev nD) : Fin 2 → Nat :=
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let c256_i32_14 : BitVec 32 := 256#32
  let v21 : BitVec 32 := Scalar.muli v20 c256_i32_14
  let c1_i32_26 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v40 : BitVec 32 := Scalar.subi c1_i32_26 v2
  let c128_i32_27 : BitVec 32 := 128#32
  let v41 : BitVec 32 := Scalar.muli v40 c128_i32_27
  let v42 : BitVec 32 := Scalar.addi v21 v41
  let c0_i32_36 : BitVec 32 := 0#32
  ![v42.toNat, 0]
def k0_dev3 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v45 : BitVec 32 := Scalar.muli v2 c2_i32_31
  let v46 : BitVec 32 := Scalar.addi c0_i32_32 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v47 : BitVec 32 := Scalar.muli v6 c1_i32_33
  let v48 : BitVec 32 := Scalar.addi v46 v47
  v48.toNat
def k0_off4 (d0 : Dev nD) : Fin 2 → Nat :=
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let c256_i32_14 : BitVec 32 := 256#32
  let v21 : BitVec 32 := Scalar.muli v20 c256_i32_14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32_28 : BitVec 32 := 128#32
  let v43 : BitVec 32 := Scalar.muli v2 c128_i32_28
  let v44 : BitVec 32 := Scalar.addi v21 v43
  let c0_i32_44 : BitVec 32 := 0#32
  ![v44.toNat, 0]
def k0_dev4 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v55 : BitVec 32 := Scalar.muli v2 c2_i32_39
  let v56 : BitVec 32 := Scalar.addi c0_i32_40 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_41 : BitVec 32 := 1#32
  let v57 : BitVec 32 := Scalar.muli v6 c1_i32_41
  let v58 : BitVec 32 := Scalar.addi v56 v57
  v58.toNat
def k0_off5 (d0 : Dev nD) : Fin 4 → Nat :=
  let c0_45 : Index := 0#32
  let c0_46 : Index := 0#32
  let c512_i32_17 : BitVec 32 := 512#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_15 v2
  let c256_i32_16 : BitVec 32 := 256#32
  let v23 : BitVec 32 := Scalar.muli v22 c256_i32_16
  let v24 : BitVec 32 := Scalar.addi c512_i32_17 v23
  let v65 : Index := Scalar.indexCast v24
  let c0_47 : Index := 0#32
  ![0, 0, v65.toNat, 0]
def k0_off6 (d0 : Dev nD) : Fin 2 → Nat :=
  let c512_i32_17 : BitVec 32 := 512#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_15 v2
  let c256_i32_16 : BitVec 32 := 256#32
  let v23 : BitVec 32 := Scalar.muli v22 c256_i32_16
  let v24 : BitVec 32 := Scalar.addi c512_i32_17 v23
  let v68 : Index := Scalar.indexCast v24
  let c0_48 : Index := 0#32
  ![v68.toNat, 0]
def k0_off7 (d0 : Dev nD) : Fin 2 → Nat :=
  let c512_i32_17 : BitVec 32 := 512#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_15 v2
  let c256_i32_16 : BitVec 32 := 256#32
  let v23 : BitVec 32 := Scalar.muli v22 c256_i32_16
  let v24 : BitVec 32 := Scalar.addi c512_i32_17 v23
  let c1_i32_49 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v70 : BitVec 32 := Scalar.subi c1_i32_49 v5
  let c128_i32_50 : BitVec 32 := 128#32
  let v71 : BitVec 32 := Scalar.muli v70 c128_i32_50
  let v72 : BitVec 32 := Scalar.addi v24 v71
  let c0_i32_58 : BitVec 32 := 0#32
  ![v72.toNat, 0]
def k0_dev5 (d0 : Dev nD) : Nat :=
  let c0_i32_54 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_53 : BitVec 32 := 2#32
  let v75 : BitVec 32 := Scalar.muli v7 c2_i32_53
  let v76 : BitVec 32 := Scalar.addi c0_i32_54 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v77 : BitVec 32 := Scalar.muli v5 c1_i32_55
  let v78 : BitVec 32 := Scalar.addi v76 v77
  v78.toNat
def k0_off8 (d0 : Dev nD) : Fin 2 → Nat :=
  let c512_i32_17 : BitVec 32 := 512#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_15 v2
  let c256_i32_16 : BitVec 32 := 256#32
  let v23 : BitVec 32 := Scalar.muli v22 c256_i32_16
  let v24 : BitVec 32 := Scalar.addi c512_i32_17 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_51 : BitVec 32 := 128#32
  let v73 : BitVec 32 := Scalar.muli v5 c128_i32_51
  let v74 : BitVec 32 := Scalar.addi v24 v73
  let c0_i32_65 : BitVec 32 := 0#32
  ![v74.toNat, 0]
def k0_dev6 (d0 : Dev nD) : Nat :=
  let c0_i32_61 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_60 : BitVec 32 := 2#32
  let v85 : BitVec 32 := Scalar.muli v7 c2_i32_60
  let v86 : BitVec 32 := Scalar.addi c0_i32_61 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v87 : BitVec 32 := Scalar.muli v5 c1_i32_62
  let v88 : BitVec 32 := Scalar.addi v86 v87
  v88.toNat
def k0_off9 (d0 : Dev nD) : Fin 4 → Nat :=
  let c0_66 : Index := 0#32
  let c0_67 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let v95 : Index := Scalar.indexCast v17
  let c0_68 : Index := 0#32
  ![0, 0, v95.toNat, 0]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let v98 : Index := Scalar.indexCast v17
  let c0_69 : Index := 0#32
  ![v98.toNat, 0]
def k0_off11 (d0 : Dev nD) : Fin 4 → Nat :=
  let c0_70 : Index := 0#32
  let c0_71 : Index := 0#32
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let v100 : Index := Scalar.indexCast v19
  let c0_72 : Index := 0#32
  ![0, 0, v100.toNat, 0]
def k0_off12 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let v103 : Index := Scalar.indexCast v19
  let c0_73 : Index := 0#32
  ![v103.toNat, 0]
def k0_off13 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let c1_i32_18 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v27 : BitVec 32 := Scalar.subi c1_i32_18 v2
  let c128_i32_19 : BitVec 32 := 128#32
  let v28 : BitVec 32 := Scalar.muli v27 c128_i32_19
  let v29 : BitVec 32 := Scalar.addi v17 v28
  let v113 : Index := Scalar.indexCast v29
  let c0_82 : Index := 0#32
  ![v113.toNat, 0]
def k0_off14 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let c1_i32_18 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v27 : BitVec 32 := Scalar.subi c1_i32_18 v2
  let c128_i32_19 : BitVec 32 := 128#32
  let v28 : BitVec 32 := Scalar.muli v27 c128_i32_19
  let v29 : BitVec 32 := Scalar.addi v17 v28
  let c0_i32_91 : BitVec 32 := 0#32
  ![v29.toNat, 0]
def k0_dev7 (d0 : Dev nD) : Nat :=
  let c0_i32_89 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_88 : BitVec 32 := 2#32
  let v120 : BitVec 32 := Scalar.muli v7 c2_i32_88
  let v121 : BitVec 32 := Scalar.addi c0_i32_89 v120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v122 : BitVec 32 := Scalar.muli v5 c1_i32_90
  let v123 : BitVec 32 := Scalar.addi v121 v122
  v123.toNat
def k0_off15 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v32 : BitVec 32 := Scalar.subi c1_i32_21 v5
  let c128_i32_22 : BitVec 32 := 128#32
  let v33 : BitVec 32 := Scalar.muli v32 c128_i32_22
  let v34 : BitVec 32 := Scalar.addi v19 v33
  let v137 : Index := Scalar.indexCast v34
  let c0_100 : Index := 0#32
  ![v137.toNat, 0]
def k0_off16 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v32 : BitVec 32 := Scalar.subi c1_i32_21 v5
  let c128_i32_22 : BitVec 32 := 128#32
  let v33 : BitVec 32 := Scalar.muli v32 c128_i32_22
  let v34 : BitVec 32 := Scalar.addi v19 v33
  let c0_i32_108 : BitVec 32 := 0#32
  ![v34.toNat, 0]
def k0_dev8 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v144 : BitVec 32 := Scalar.muli v2 c2_i32_105
  let v145 : BitVec 32 := Scalar.addi c0_i32_106 v144
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v146 : BitVec 32 := Scalar.muli v6 c1_i32_107
  let v147 : BitVec 32 := Scalar.addi v145 v146
  v147.toNat
def k0_off17 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v25 : BitVec 32 := Scalar.muli v2 c128_i32
  let v26 : BitVec 32 := Scalar.addi v17 v25
  let v161 : Index := Scalar.indexCast v26
  let c0_117 : Index := 0#32
  ![v161.toNat, 0]
def k0_off18 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_20 : BitVec 32 := 128#32
  let v30 : BitVec 32 := Scalar.muli v5 c128_i32_20
  let v31 : BitVec 32 := Scalar.addi v19 v30
  let v176 : Index := Scalar.indexCast v31
  let c0_128 : Index := 0#32
  ![v176.toNat, 0]
def k0_off19 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v17 : BitVec 32 := Scalar.muli v5 c256_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v25 : BitVec 32 := Scalar.muli v2 c128_i32
  let v26 : BitVec 32 := Scalar.addi v17 v25
  let c0_i32_146 : BitVec 32 := 0#32
  ![v26.toNat, 0]
def k0_dev9 (d0 : Dev nD) : Nat :=
  let c0_i32_144 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_143 : BitVec 32 := 2#32
  let v197 : BitVec 32 := Scalar.muli v7 c2_i32_143
  let v198 : BitVec 32 := Scalar.addi c0_i32_144 v197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_145 : BitVec 32 := 1#32
  let v199 : BitVec 32 := Scalar.muli v5 c1_i32_145
  let v200 : BitVec 32 := Scalar.addi v198 v199
  v200.toNat
def k0_dev10 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v207 : BitVec 32 := Scalar.muli v2 c2_i32_149
  let v208 : BitVec 32 := Scalar.addi c0_i32_150 v207
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v209 : BitVec 32 := Scalar.muli v6 c1_i32_151
  let v210 : BitVec 32 := Scalar.addi v208 v209
  v210.toNat
def k0_off20 (d0 : Dev nD) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_12 : BitVec 32 := 256#32
  let v18 : BitVec 32 := Scalar.muli v2 c256_i32_12
  let v19 : BitVec 32 := Scalar.addi c512_i32 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_20 : BitVec 32 := 128#32
  let v30 : BitVec 32 := Scalar.muli v5 c128_i32_20
  let v31 : BitVec 32 := Scalar.addi v19 v30
  let c0_i32_168 : BitVec 32 := 0#32
  ![v31.toNat, 0]
def k0_dev11 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v231 : BitVec 32 := Scalar.muli v2 c2_i32_165
  let v232 : BitVec 32 := Scalar.addi c0_i32_166 v231
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_167 : BitVec 32 := 1#32
  let v233 : BitVec 32 := Scalar.muli v6 c1_i32_167
  let v234 : BitVec 32 := Scalar.addi v232 v233
  v234.toNat
def k0_dev12 (d0 : Dev nD) : Nat :=
  let c0_i32_172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_171 : BitVec 32 := 2#32
  let v241 : BitVec 32 := Scalar.muli v7 c2_i32_171
  let v242 : BitVec 32 := Scalar.addi c0_i32_172 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v243 : BitVec 32 := Scalar.muli v5 c1_i32_173
  let v244 : BitVec 32 := Scalar.addi v242 v243
  v244.toNat
def k0_dev13 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v259 : BitVec 32 := Scalar.muli v2 c2_i32_184
  let v260 : BitVec 32 := Scalar.addi c0_i32_185 v259
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v261 : BitVec 32 := Scalar.muli v6 c1_i32_186
  let v262 : BitVec 32 := Scalar.addi v260 v261
  v262.toNat
def k0_dev14 (d0 : Dev nD) : Nat :=
  let c0_i32_198 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_197 : BitVec 32 := 2#32
  let v277 : BitVec 32 := Scalar.muli v7 c2_i32_197
  let v278 : BitVec 32 := Scalar.addi c0_i32_198 v277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v279 : BitVec 32 := Scalar.muli v5 c1_i32_199
  let v280 : BitVec 32 := Scalar.addi v278 v279
  v280.toNat
abbrev stage0_0 : Fin 1 → Memref sig .tc .vmem S1x1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x1024x1024 : Shape := ⟨4, ![2, 2, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2x1024x1024, .bf16⟩
  | .hbm, ⟨1, _⟩ => ⟨S2x2x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S2x2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Mesh.lean ====
/-
# The 2 × 2 mesh, the blocks and the transfers

Device `c = 2x + y`. The kernel sums `x` over the four devices in two independent halves of the rows: half `false` is
rows 0–511, half `true` rows 512–1023. Half `false` reduces first with the neighbour along `y`, then with the one
along `x`; half `true` the other way round. This module names the neighbours, the eight row blocks of 128 rows, the
twelve transfers of one device with their source block and landing place, and the semaphores, and proves that the
numbers printed in the kernel are these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Neighbours -/

/-- The neighbour of `c` along `y` (`false`) or along `x` (`true`). -/
def nb (d : Bool) (c : Dev nD) : Dev nD :=
  if d then ⟨(c.val + 2) % 4, Nat.mod_lt _ (by decide)⟩ else ⟨c.val + 1 - 2 * (c.val % 2), by have := c.isLt; simp only [nD] at *; omega⟩

theorem nb_nb (d : Bool) (c : Dev nD) : nb d (nb d c) = c := by revert d c; decide
theorem nb_comm (d e : Bool) (c : Dev nD) : nb d (nb e c) = nb e (nb d c) := by revert d e c; decide

/-- Taking the neighbour, as a permutation of the devices. -/
def nbEquiv (d : Bool) : Dev nD ≃ Dev nD := ⟨nb d, nb d, nb_nb d, nb_nb d⟩

/-- The device across the mesh. -/
abbrev opp (c : Dev nD) : Dev nD := nb true (nb false c)

/-- In half `h` the first partner is the neighbour `nb h`, the second `nb !h`. -/
abbrev snd (h : Bool) (c : Dev nD) : Dev nD := nb (!h) c

/-! ## Blocks of 128 rows -/

/-- The block that device `p` is to reduce in half `h`. -/
def kk (h : Bool) (p : Dev nD) : Fin 8 :=
  if h then ⟨4 + 2 * (p.val / 2) + p.val % 2, by have := p.isLt; simp only [nD] at *; omega⟩
  else ⟨2 * (p.val % 2) + p.val / 2, by have := p.isLt; simp only [nD] at *; omega⟩

theorem inbO (k : Fin 8) : ∀ a, (![128 * k.val, 0] : Fin 2 → Nat) a + S128x1024.size a ≤ S1024x1024.size a := by
  revert k; decide

/-- Block `k` as a rectangle of the array. -/
abbrev rO (k : Fin 8) : Rect S1024x1024 := Rect.unit (s := S1024x1024) ![128 * k.val, 0] S128x1024.size (inbO k)

abbrev xM : Memref sig .tc .vmem S1x1x1024x1024 .bf16 := Memref.whole cc0_stg0_0
abbrev oM : Memref sig .tc .vmem S1024x1024 .bf16 := Memref.whole cc0_stg1_0

/-- Block `k` of the accumulator. -/
abbrev oB (k : Fin 8) : Memref sig .tc .vmem S128x1024 .bf16 := oM.slice (rO k) (fun _ => rfl)

/-- The landing buffer of half `h`'s first exchange, two blocks tall. -/
abbrev rs1 (h : Bool) : Memref sig .tc .vmem S256x1024 .bf16 := match h with
  | false => Memref.whole cc0_scratch0
  | true => Memref.whole cc0_scratch1

theorem inbR (i : Fin 2) : ∀ a, (![128 * i.val, 0] : Fin 2 → Nat) a + S128x1024.size a ≤ S256x1024.size a := by
  revert i; decide

abbrev rR (i : Fin 2) : Rect S256x1024 := Rect.unit (s := S256x1024) ![128 * i.val, 0] S128x1024.size (inbR i)

/-- Its upper and lower block. -/
abbrev rs1B (h : Bool) (i : Fin 2) : Memref sig .tc .vmem S128x1024 .bf16 := (rs1 h).slice (rR i) (fun _ => rfl)

/-- The landing buffer of half `h`'s second exchange, one block. -/
abbrev rs2 (h : Bool) : Memref sig .tc .vmem S128x1024 .bf16 := match h with
  | false => Memref.whole cc0_scratch2
  | true => Memref.whole cc0_scratch3

/-! ## Transfers

Transfer `(h, i)` of half `h`: `0` and `1` the first exchange (two blocks), `2` the second, `3` the reduced block to
the second partner, `4` the same to the first, `5` the second partner's block passed on to the first. -/

abbrev Xf : Type := Bool × Fin 6

/-- To whom device `c` sends transfer `t`; also from whom it receives its own. -/
def peer (t : Xf) (c : Dev nD) : Dev nD := if t.2 = 2 ∨ t.2 = 3 then snd t.1 c else nb t.1 c

theorem peer_peer (t : Xf) (c : Dev nD) : peer t (peer t c) = c := by revert t c; decide

def peerEquiv (t : Xf) : Dev nD ≃ Dev nD := ⟨peer t, peer t, peer_peer t, peer_peer t⟩

/-- The block transfer `t` of device `c` reads. -/
def srcK (t : Xf) (c : Dev nD) : Fin 8 := kk t.1 (match t.2 with
  | 0 => opp c | 1 => nb t.1 c | 2 => snd t.1 c | 3 => c | 4 => c | 5 => snd t.1 c)

/-- Where transfer `t` of device `c` lands, on the peer. -/
def dstM (t : Xf) (c : Dev nD) : Memref sig .tc .vmem S128x1024 .bf16 := match t.2 with
  | 0 => rs1B t.1 0 | 1 => rs1B t.1 1 | 2 => rs2 t.1 | _ => oB (srcK t c)

/-! ## Semaphores -/

def sndS (t : Xf) : DmaSem sig := ⟨2 + (if t.1 then 6 else 0) + t.2.val, by
  show _ < 26; have := t.2.isLt; split <;> omega⟩
def rcvS (t : Xf) : DmaSem sig := ⟨14 + (if t.1 then 6 else 0) + t.2.val, by
  show _ < 26; have := t.2.isLt; split <;> omega⟩

abbrev barS : Sem sig := (SemArray.scalar (sig.barrier 0 rfl) : Sems sig S_).sem

/-- One name per semaphore the protocol uses on a device: the barrier, and per transfer the issuer's (`false`) and the
    receiver's (`true`). -/
abbrev CI : Type := Option (Bool × Xf)

def csem : CI → SemLoc sig
  | none => .reg barS
  | some (false, t) => .dma (sndS t)
  | some (true, t) => .dma (rcvS t)

/-- The name of a semaphore, if it has one. -/
def kindOf : SemLoc sig → Option CI
  | .reg _ => some none
  | .dma q => if q.val < 2 then none
      else some (some (decide (14 ≤ q.val), (decide (6 ≤ (q.val - 2) % 12), ⟨(q.val - 2) % 6, Nat.mod_lt _ (by decide)⟩)))

theorem kindOf_snd (t : Xf) : kindOf (.dma (sndS t)) = some (some (false, t)) := by revert t; decide
theorem kindOf_rcv (t : Xf) : kindOf (.dma (rcvS t)) = some (some (true, t)) := by revert t; decide
theorem kindOf_bar : kindOf (.reg barS) = some none := rfl
theorem kindOf_csem (k : CI) : kindOf (csem k) = some k := by
  match k with
  | none => rfl
  | some (false, t) => exact kindOf_snd t
  | some (true, t) => exact kindOf_rcv t

/-- The cell `k` of device `c`. -/
abbrev kcell (ck : Dev nD × CI) : GSem nD τ sig := ((ck.1 : Thread nD τ), csem ck.2)
abbrev barC (c : Dev nD) : GSem nD τ sig := ((c : Thread nD τ), .reg barS)
abbrev sndC (t : Xf) (c : Dev nD) : GSem nD τ sig := ((c : Thread nD τ), .dma (sndS t))
abbrev rcvC (t : Xf) (c : Dev nD) : GSem nD τ sig := ((c : Thread nD τ), .dma (rcvS t))

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem k, ← kindOf_csem k', h2]
  rw [h1, Option.some.inj h3]

/-- What one transfer of a block adds to a semaphore. -/
abbrev N : ℕ := (oB 0).view.dmaCredit
theorem N_pos : 0 < N := View.dmaCredit_pos _ (by decide)

theorem credit_oB (k : Fin 8) : (oB k).view.dmaCredit = N := rfl
theorem credit_dst (t : Xf) (c : Dev nD) : (dstM t c).view.dmaCredit = N := by
  obtain ⟨h, i⟩ := t; cases h <;> fin_cases i <;> rfl

end Cert.KernelIdeal.AllReduce

end
-- ==== Proof.KernelIdeal.Values.lean ====
/-
# What the arrays hold

`xw c` is device `c`'s block of `x` as a matrix. In half `h` the first exchange makes `s1 h c`, the sum over `c` and
its first partner; the second makes `tot h c`, the sum of that and the second partner's `s1`. Device `p` reduces block
`kk h p`, and the result `fin` takes each block from the device that reduced it: it does not depend on the device.
-/
module

public import proofs.«01_k».proof.Proof.KernelIdeal.Mesh
public import Idealize.ShloMosaic.Lib.ValueIdx
public import Idealize.ShloMosaic.Lib.ValueLayout
public import Idealize.ShloMosaic.Lib.Pipeline.ValueKit.Geometry

@[expose] public section

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- The same as a matrix. -/
def xw (c : Dev nD) : FVec F S1024x1024 .bf16 := fun i => xstg m c (ix4 (0 : Fin 1) (0 : Fin 1) (i 0) (i 1))

/-- After the first exchange. -/
def s1 (h : Bool) (c : Dev nD) : FVec F S1024x1024 .bf16 := addf (xw m c) (xw m (nb h c))
/-- After the second. -/
def tot (h : Bool) (c : Dev nD) : FVec F S1024x1024 .bf16 := addf (s1 m h c) (s1 m h (snd h c))

/-- The half a block lies in and the device that reduces it. -/
def owner (k : Fin 8) : Bool × Dev nD :=
  if k.val < 4 then (false, ⟨(2 * (k.val % 2) + k.val / 2) % 4, Nat.mod_lt _ (by decide)⟩)
  else (true, ⟨(k.val - 4) % 4, Nat.mod_lt _ (by decide)⟩)

theorem owner_kk (h : Bool) (p : Dev nD) : owner (kk h p) = (h, p) := by revert h p; decide

/-- The block a row lies in. -/
def rowBlk (i : S1024x1024.Idx) : Fin 8 := ⟨(i 0).val / 128, by have : (i 0).val < 1024 := (i 0).isLt; omega⟩

/-- The result, on every device. -/
def fin : FVec F S1024x1024 .bf16 := fun i => tot m (owner (rowBlk i)).1 (owner (rowBlk i)).2 i

/-- Block `k` of a matrix. -/
def blk (k : Fin 8) (X : FVec F S1024x1024 .bf16) : FVec F S128x1024 .bf16 := fun j => X ((rO k).emb j)

theorem blk_addf (k : Fin 8) (X Y : FVec F S1024x1024 .bf16) : addf (blk k X) (blk k Y) = blk k (addf X Y) := rfl

omit [FloatOps F] in
theorem emb_rO_0 (k : Fin 8) (j : S128x1024.Idx) : ((rO k).emb j 0).val = 128 * k.val + (j 0).val := by
  rw [ValueKit.rect_emb_unit_val]; rfl

theorem rowBlk_emb (k : Fin 8) (j : S128x1024.Idx) : rowBlk ((rO k).emb j) = k := by
  have hj : (j 0).val < 128 := (j 0).isLt
  have := emb_rO_0 k j
  exact Fin.ext (by simp only [rowBlk]; omega)

/-- The reduced block is the result's. -/
theorem blk_tot (h : Bool) (p : Dev nD) : blk (kk h p) (tot m h p) = blk (kk h p) (fin m) := by
  funext j
  unfold blk fin
  rw [rowBlk_emb, owner_kk]

/-- What transfer `t` of device `c` carries. -/
def val (t : Xf) (c : Dev nD) : FVec F S128x1024 .bf16 := blk (srcK t c) (match t.2 with
  | 0 => xw m c | 1 => xw m c | 2 => s1 m t.1 c | _ => fin m)

end Cert.KernelIdeal.AllReduce

end
-- ==== Proof.KernelIdeal.Plan.lean ====
/-
# The protocol

One round per semaphore. A device's barrier is signalled by both neighbours; each signal hands over the landing places
that the signalled device will write on the signaller. A receive semaphore hands its owner the landed block, with the
contents it has, and, for the first three transfers of a half, also the issuer's source block: the issuer does not
touch that block again until the owner has sent the result into it. A send semaphore of the last three transfers
hands the source back.

The waits are ordered by levels: staging and send semaphores 0, barrier 1, then the receive semaphores 2 (first
exchange), 3 (second), 4 and 5 (results). A device that waits at one level owes only at higher ones.
-/
module

public import proofs.«01_k».proof.Proof.KernelIdeal.Values

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- A block on device `c` holding `X`, at share `q`. -/
abbrev has (c : Dev nD) (M : Memref sig .tc .vmem S128x1024 .bf16) (q : PosShare TreeShare) (X : FVec F S128x1024 .bf16) : sProp 𝕄 :=
  owns (c : Thread nD τ) M q X

/-- A block on device `c`, contents unknown. -/
def room (c : Dev nD) (M : Memref sig .tc .vmem S128x1024 .bf16) : sProp 𝕄 := iprop(∃ X, has (F := F) c M fullShare X)

instance room_storable (c : Dev nD) (M : Memref sig .tc .vmem S128x1024 .bf16) :
    BI.Storable (upEmb : UEmb _ 𝕄) (room (F := F) c M) := by unfold room; infer_instance

/-! ## Payloads -/

/-- What the neighbour `nb d c` hands `c` at the barrier: its landing places for `c`. -/
def barPay (c : Dev nD) (d : Bool) : sProp 𝕄 :=
  iprop(room (F := F) (nb d c) (rs1B d 0) ∗ room (F := F) (nb d c) (rs1B d 1) ∗ room (F := F) (nb d c) (rs2 (!d)))

/-- Whether a transfer's source goes to the receiver (the first three of a half). -/
abbrev early (t : Xf) : Prop := t.2.val < 3

/-- The share of the source a transfer reads with: the reduced block is sent twice at once. -/
def shr (t : Xf) : PosShare TreeShare := if t.2 = 3 then fullShare.left else if t.2 = 4 then fullShare.right else fullShare

def rcvPay (c : Dev nD) (t : Xf) : sProp 𝕄 :=
  iprop(has c (dstM t (peer t c)) fullShare (val m t (peer t c))
    ∗ if early t then room (F := F) (peer t c) (oB (srcK t (peer t c))) else emp)

def sndPay (c : Dev nD) (t : Xf) : sProp 𝕄 :=
  if early t then iprop(emp) else has c (oB (srcK t c)) (shr t) (val m t c)

def payOf (c : Dev nD) (d : Bool) : Option CI → sProp 𝕄
  | some none => barPay c d
  | some (some (false, t)) => sndPay m c t
  | some (some (true, t)) => rcvPay m c t
  | none => iprop(emp)

def dutiesOf : Option CI → Finset Bool
  | some none => Finset.univ
  | some (some _) => {false}
  | none => ∅

def amountOf : Option CI → ℕ
  | some none => 1
  | _ => N

theorem amountOf_pos (k : Option CI) : 0 < amountOf k := by
  unfold amountOf
  split
  · exact Nat.one_pos
  · exact N_pos

instance payOf_storable (c : Dev nD) (d : Bool) (k : Option CI) : BI.Storable (upEmb : UEmb _ 𝕄) (payOf m c d k) := by
  unfold payOf
  split
  · unfold barPay; infer_instance
  · unfold sndPay; split <;> infer_instance
  · unfold rcvPay; split <;> infer_instance
  · infer_instance

/-- The schedule: round 0 only. -/
def Rd : Rounds.Schedule (GSem nD τ sig) Bool 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := amountOf_pos (kindOf g.2)

instance Rd_storable (g : GSem nD τ sig) (r : ℕ) (d : Bool) : BI.Storable (upEmb : UEmb _ 𝕄) ((Rd (F := F) m).payload g r d) :=
  payOf_storable m g.1.1 d (kindOf g.2)

theorem duties_at (c : Dev nD) (sm : SemLoc sig) : (Rd (F := F) m).duties ((c : Thread nD τ), sm) 0 = dutiesOf (kindOf sm) := by
  dsimp only [Rd]; exact if_pos ⟨rfl, rfl⟩
theorem duties_bar (c : Dev nD) : (Rd (F := F) m).duties (barC c) 0 = Finset.univ := duties_at m c _
theorem duties_snd (t : Xf) (c : Dev nD) : (Rd (F := F) m).duties (sndC t c) 0 = {false} := by
  rw [duties_at, kindOf_snd]; rfl
theorem duties_rcv (t : Xf) (c : Dev nD) : (Rd (F := F) m).duties (rcvC t c) 0 = {false} := by
  rw [duties_at, kindOf_rcv]; rfl
theorem duties_later (g : GSem nD τ sig) : ∀ r, 1 ≤ r → (Rd (F := F) m).duties g r = ∅ :=
  fun r hr => if_neg fun h => by omega

theorem amount_bar (c : Dev nD) (d : Bool) : (Rd (F := F) m).amount (barC c) 0 d = 1 := rfl
theorem amount_snd (t : Xf) (c : Dev nD) (d : Bool) : (Rd (F := F) m).amount (sndC t c) 0 d = N := by
  show amountOf (kindOf _) = N; rw [kindOf_snd]; rfl
theorem amount_rcv (t : Xf) (c : Dev nD) (d : Bool) : (Rd (F := F) m).amount (rcvC t c) 0 d = N := by
  show amountOf (kindOf _) = N; rw [kindOf_rcv]; rfl

theorem expect_bar (c : Dev nD) : (Rd (F := F) m).expect (barC c) 0 = 2 := by
  unfold Schedule.expect Schedule.amountOf; rw [duties_bar]; rfl
theorem expect_snd (t : Xf) (c : Dev nD) : (Rd (F := F) m).expect (sndC t c) 0 = N := by
  unfold Schedule.expect Schedule.amountOf; rw [duties_snd, Finset.sum_singleton, amount_snd]
theorem expect_rcv (t : Xf) (c : Dev nD) : (Rd (F := F) m).expect (rcvC t c) 0 = N := by
  unfold Schedule.expect Schedule.amountOf; rw [duties_rcv, Finset.sum_singleton, amount_rcv]

theorem pay_bar (c : Dev nD) (d : Bool) : (Rd (F := F) m).payload (barC c) 0 d = barPay c d := rfl
theorem pay_snd (t : Xf) (c : Dev nD) (d : Bool) : (Rd (F := F) m).payload (sndC t c) 0 d = sndPay m c t := by
  show payOf m c d (kindOf _) = _; rw [kindOf_snd]; rfl
theorem pay_rcv (t : Xf) (c : Dev nD) (d : Bool) : (Rd (F := F) m).payload (rcvC t c) 0 d = rcvPay m c t := by
  show payOf m c d (kindOf _) = _; rw [kindOf_rcv]; rfl

/-- All a wait at the barrier hands out. -/
theorem rest_bar (c : Dev nD) : bigSep ((Rd (F := F) m).duties (barC c) 0 \ ∅) (fun d => (Rd (F := F) m).payload (barC c) 0 d)
    = iprop(barPay (F := F) c false ∗ barPay (F := F) c true) := by
  rw [Finset.sdiff_empty, duties_bar, bigSep_univ_eq_bigSepL [false, true] (by decide) (by decide), bigSepL_cons_cons, bigSepL_singleton]
  rfl
theorem rest_snd (t : Xf) (c : Dev nD) : bigSep ((Rd (F := F) m).duties (sndC t c) 0 \ ∅) (fun d => (Rd (F := F) m).payload (sndC t c) 0 d)
    = sndPay m c t := by
  rw [Finset.sdiff_empty, duties_snd, bigSep_singleton, pay_snd]
theorem rest_rcv (t : Xf) (c : Dev nD) : bigSep ((Rd (F := F) m).duties (rcvC t c) 0 \ ∅) (fun d => (Rd (F := F) m).payload (rcvC t c) 0 d)
    = rcvPay m c t := by
  rw [Finset.sdiff_empty, duties_rcv, bigSep_singleton, pay_rcv]

/-! ## Levels and debts -/

/-- The level of a receive semaphore. -/
def rlev (t : Xf) : ℕ := match t.2 with
  | 0 => 2 | 1 => 2 | 2 => 3 | 3 => 4 | 4 => 5 | 5 => 5

def klev : Option CI → ℕ
  | some none => 1
  | some (some (true, t)) => rlev t
  | _ => 0

def L (g : GSem nD τ sig) : Finset Unit := if g.1.2 = .tc then {()} else ∅
def lv (g : GSem nD τ sig) (_ : Unit) : ℕ := klev (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- What a device can owe: a signal to a neighbour, or the credit of a transfer. -/
inductive Debt
  | bar (d : Bool)
  | xf (t : Xf)

/-- The cell a debt of device `c` is owed to, and how much. -/
def Debt.cell (c : Dev nD) : Debt → GSem nD τ sig
  | .bar d => barC (nb d c)
  | .xf t => rcvC t (peer t c)
def Debt.amt : Debt → ℕ
  | .bar _ => 1
  | .xf _ => N
def Debt.lev : Debt → ℕ
  | .bar _ => 1
  | .xf t => rlev t

/-- What device `c` owes while the debts `l` are open, the next to be paid first. -/
def OL (c : Dev nD) (l : List Debt) : CellTallies nD τ sig Unit := (l.map fun d => tallyAt (d.cell c) () d.amt).sum

theorem OL_cons (c : Dev nD) (d : Debt) (l : List Debt) : OL c (d :: l) = OL c l + tallyAt (d.cell c) () d.amt := by
  unfold OL; rw [List.map_cons, List.sum_cons, add_comm]
theorem OL_nil (c : Dev nD) : OL c [] = 0 := rfl

theorem OL_pos (c : Dev nD) (l : List Debt) (g : GSem nD τ sig) (u : Unit) (h : 0 < OL c l g u) : ∃ d ∈ l, g = d.cell c := by
  induction l with
  | nil => exact absurd h (Nat.lt_irrefl 0)
  | cons d l ih =>
    rw [OL_cons, Pi.add_apply, Finsupp.add_apply, tallyAt_apply] at h
    by_cases hg : g = d.cell c ∧ u = ()
    · exact ⟨d, List.mem_cons_self, hg.1⟩
    · rw [if_neg hg, Nat.add_zero] at h
      obtain ⟨d', hd', e⟩ := ih h
      exact ⟨d', List.mem_cons_of_mem _ hd', e⟩

theorem Debt.L_cell (c : Dev nD) (d : Debt) (u : Unit) : u ∈ L (d.cell c) := by
  cases d <;> exact Finset.mem_singleton_self _

theorem Debt.lv_cell (c : Dev nD) (d : Debt) : lv (d.cell c) () = d.lev := by
  cases d with
  | bar d => rfl
  | xf t => show klev (kindOf (.dma (rcvS t))) = _; rw [kindOf_rcv]; rfl

/-- A wait below every open debt is allowed. -/
theorem mayWait (c : Dev nD) (sm : SemLoc sig) (l : List Debt) (h : ∀ d ∈ l, klev (kindOf sm) < d.lev) :
    (levAts L lv : sProp 𝕄) ⊢ MayWait (c : Thread nD τ) sm () (OL c l) :=
  MayOwe.of_cut (L := L) (lev := lv) (klev (kindOf sm))
    (fun p hp => by rw [Finset.mem_singleton.mp hp, L_tc]; exact Finset.mem_singleton_self _)
    (fun g u hg => by obtain ⟨d, -, rfl⟩ := OL_pos c l g u hg; exact d.L_cell c u)
    (fun p hp => by rw [Finset.mem_singleton.mp hp]; exact Nat.le_refl _)
    (fun g u hg => by obtain ⟨d, hd, rfl⟩ := OL_pos c l g u hg; exact (d.lv_cell c).symm ▸ h d hd)

/-- The debts of a device at launch, in the order it pays them. -/
def debts : List Debt :=
  [.bar false, .bar true, .xf (false, 0), .xf (false, 1), .xf (true, 0), .xf (true, 1), .xf (false, 2), .xf (true, 2),
    .xf (false, 3), .xf (false, 4), .xf (true, 3), .xf (true, 4), .xf (false, 5), .xf (true, 5)]

/-! ## A device's share of the protocol -/

/-- What every device knows: all cells' invariants, that each has reached round 0, and the levels. -/
def base (K : Dev nD × CI → ℕ) : sProp 𝕄 :=
  iprop((bigSep Finset.univ fun ck : Dev nD × CI => iprop(cellInv ER (Rd (F := F) m) (K ck) (kcell ck) ∗ reached ER (kcell ck) 0)) ∗ levAts L lv)

instance base_persistent (K : Dev nD × CI → ℕ) : BI.Persistent (base (F := F) m K) := by unfold base; infer_instance

theorem base_at (K : Dev nD × CI → ℕ) (ck : Dev nD × CI) :
    base (F := F) m K ⊢ iprop(cellInv ER (Rd (F := F) m) (K ck) (kcell ck) ∗ reached ER (kcell ck) 0) := by
  unfold base
  iintro ⟨H, -⟩
  ihave H := (Entails.of_eq (bigSep_univ_at _ ck)) $$ H
  icases H with ⟨H, -⟩
  iexact H

theorem base_lev (K : Dev nD × CI → ℕ) : base (F := F) m K ⊢ levAts L lv := by
  unfold base
  iintro ⟨-, H⟩
  iexact H

/-- What device `c` needs to issue transfer `t` and wait for its own semaphore. -/
def sendKit (c : Dev nD) (t : Xf) : sProp 𝕄 :=
  iprop(dutyTok ER (sndC t c) 0 false ∗ dutyTok ER (rcvC t (peer t c)) 0 false ∗ atPos ER (sndC t c) 0 ∅ 0)
/-- Transfer `t` issued. -/
def flying (c : Dev nD) (t : Xf) : sProp 𝕄 := iprop(cred (tallyAt (sndC t c) () N) ∗ atPos ER (sndC t c) 0 ∅ 0)
/-- What device `c` needs to receive transfer `t`. -/
def recvKit (c : Dev nD) (t : Xf) : sProp 𝕄 := iprop(cred (tallyAt (rcvC t c) () N) ∗ atPos ER (rcvC t c) 0 ∅ 0)
/-- What device `c` needs at the barrier. -/
def barKit (c : Dev nD) : sProp 𝕄 :=
  iprop((dutyTok ER (barC (nb false c)) 0 false ∗ dutyTok ER (barC (nb true c)) 0 true) ∗ cred (tallyAt (barC c) () 2) ∗ atPos ER (barC c) 0 ∅ 0)

/-- Device `c` owing the debts `l`. -/
def owing (c : Dev nD) (l : List Debt) : sProp 𝕄 := iprop(∃ W, owes (c : Thread nD τ) (OL c l) W)

end Cert.KernelIdeal.AllReduce

end
-- ==== Proof.KernelIdeal.Sync.lean ====
/-
# One rule per synchronising operation

Signals, the barrier wait, the sends, and the waits for a landing or for a source to be free again: each rule is
stated once, for every transfer and device, and hands on the resources of the protocol by name. A wait also closes its
semaphore's cell, so that its counter at zero is known from there on.
-/
module

public import proofs.«01_k».proof.Proof.KernelIdeal.Plan

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- Running `p` on device `c` to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules

variable (c : Dev nD)

/-- Signalling the barrier of the neighbour `nb d c`: the landing places that the neighbour writes go with it. -/
theorem step_signal {α : Type} {Q : α → sProp 𝕄} {k : PUnit → Prog (TpuEff nD τ sig (Elt F) Λ₀ .tc) α}
    (d : Bool) (l : List Debt) {n : Dev nD} (hn : n = nb d c) {w : ℤ} (hw : w = ((1 : ℕ) : ℤ)) :
    iprop(base (F := F) m K ∗ dutyTok ER (barC (nb d c)) 0 d
        ∗ (room (F := F) c (rs1B d 0) ∗ room (F := F) c (rs1B d 1) ∗ room (F := F) c (rs2 (!d))) ∗ owing c (.bar d :: l))
      ⊢ iprop((owing c l -∗ run c (k ⟨⟩) Q) -∗ run c (.op (.semSignal (n : Thread nD τ) barS w) k) Q) := by
  subst hn hw
  iintro ⟨#Hb, Htok, Hpay, Ho⟩ Hk
  unfold owing
  icases Ho with ⟨%W, Ho⟩
  ihave Hc := (base_at m K (nb d c, none)) $$ Hb
  icases Hc with ⟨Hinv, Hre⟩
  iapply (Rounds.wp_signal 𝒱₀ ER (Rd m) (c : Thread nD τ) none (dst := (nb d c : Thread nD τ)) (κ := K (nb d c, none))
      (d := d) (by rw [duties_bar]; exact Finset.mem_univ _) (amount_bar m (nb d c) d) () (OL c l) (OL_cons c (.bar d) l)) $$ [Hinv Ho Htok Hpay Hre]
  · isplitl [Hinv]; · iexact Hinv
    isplitl [Ho]; · iexact Ho
    isplitl [Htok]; · iexact Htok
    isplitl [Hpay]
    · rw [pay_bar]; unfold barPay; rw [nb_nb]; iexact Hpay
    iexact Hre
  iintro Ho
  iapply Hk
  iexists W; iexact Ho

/-- Waiting for both neighbours at the barrier. -/
theorem step_barrier {α : Type} {Q : α → sProp 𝕄} {k : PUnit → Prog (TpuEff nD τ sig (Elt F) Λ₀ .tc) α}
    (l : List Debt) (hl : ∀ d ∈ l, 1 < d.lev) {w : ℕ} (hw : w = 2) :
    iprop(base (F := F) m K ∗ (cred (tallyAt (barC c) () 2) ∗ atPos ER (barC c) 0 ∅ 0) ∗ owing c l)
      ⊢ iprop(((semVal (barC c) 0 ∗ (barPay (F := F) c false ∗ barPay (F := F) c true) ∗ owing c l) -∗ run c (k ⟨⟩) Q)
          -∗ run c (.op (.semWait barS w) k) Q) := by
  subst hw
  iintro ⟨#Hb, ⟨Hcr, Hat⟩, Ho⟩ Hk
  unfold owing
  icases Ho with ⟨%W, Ho⟩
  ihave Hc := (base_at m K (c, none)) $$ Hb
  icases Hc with ⟨#Hinv, -⟩
  ihave Hlev := (base_lev m K) $$ Hb
  iapply (Rounds.wp_wait_rest_token 𝒱₀ ER (Rd m) (c : Thread nD τ) none (κ := K (c, none))
      (wpE_semWait_eq 𝒱₀ (c : Thread nD τ) none Set.univ) (Set.mem_univ _) () (O := OL c l) (W := W) (R := 0) (m := 0) (T := ∅)
      (by rw [Nat.zero_add, expect_bar])) $$ [Hcr Hat Ho Hlev]
  · isplitr; · iexact Hinv
    isplitl [Hcr]; · iexact Hcr
    isplitl [Ho]; · iexact Ho
    isplitl [Hlev]; · iapply (mayWait c (.reg barS) l hl); iexact Hlev
    iexact Hat
  iintro ⟨Ho, Hat, -, Hpay⟩
  ihave Hp := (Entails.of_eq (rest_bar m c)) $$ Hpay
  imod (Rounds.cell_close ER (Rd m) (Set.mem_univ (K (c, none))) (fun h => h) (R := 0 + 1) (duties_later m (barC c))) $$ [Hat] with Hz
  · isplitr; · iexact Hinv
    iexact Hat
  iapply Hk
  isplitl [Hz]; · iexact Hz
  isplitl [Hp]; · iexact Hp
  iexists _; iexact Ho

/-- Waiting for transfer `t` to land: the landed block, with what it holds, and the issuer's block if it is lent. -/
theorem step_recv {α : Type} {Q : α → sProp 𝕄} {k : PUnit → Prog (TpuEff nD τ sig (Elt F) Λ₀ .tc) α}
    (t : Xf) (l : List Debt) (hl : ∀ d ∈ l, rlev t < d.lev) {sem : DmaSem sig} (hs : sem = rcvS t)
    {src dst : Memref sig .tc .vmem S128x1024 .bf16} (hc : dst.view.dmaCredit = N)
    {h₁ : src.view.WordExact} {h₂ : dst.view.WordExact} :
    iprop(base (F := F) m K ∗ recvKit (F := F) c t ∗ owing c l)
      ⊢ iprop(((semVal (rcvC t c) 0 ∗ rcvPay m c t ∗ owing c l) -∗ run c (k ⟨⟩) Q)
          -∗ run c (.op (.waitDma2 sem src dst h₁ h₂) k) Q) := by
  subst hs
  iintro ⟨#Hb, Hkit, Ho⟩ Hk
  unfold owing recvKit
  icases Hkit with ⟨Hcr, Hat⟩
  icases Ho with ⟨%W, Ho⟩
  ihave Hc := (base_at m K (c, some (true, t))) $$ Hb
  icases Hc with ⟨#Hinv, -⟩
  ihave Hlev := (base_lev m K) $$ Hb
  iapply (Rounds.wp_wait_rest_token 𝒱₀ ER (Rd m) (c : Thread nD τ) none (κ := K (c, some (true, t)))
      (wpE_waitDma2_eq 𝒱₀ (c : Thread nD τ) none Set.univ) (Set.mem_univ _) () (O := OL c l) (W := W) (R := 0) (m := 0) (T := ∅)
      (by rw [Nat.zero_add, hc]; exact (expect_rcv m t c).symm)) $$ [Hcr Hat Ho Hlev]
  · isplitr; · iexact Hinv
    isplitl [Hcr]; · rw [hc]; iexact Hcr
    isplitl [Ho]; · iexact Ho
    isplitl [Hlev]
    · iapply (mayWait c (.dma (rcvS t)) l (by rw [kindOf_rcv]; exact hl)); iexact Hlev
    iexact Hat
  iintro ⟨Ho, Hat, -, Hpay⟩
  ihave Hp := (Entails.of_eq (rest_rcv m t c)) $$ Hpay
  imod (Rounds.cell_close ER (Rd m) (Set.mem_univ (K (c, some (true, t)))) (fun h => h) (R := 0 + 1) (duties_later m (rcvC t c))) $$ [Hat] with Hz
  · isplitr; · iexact Hinv
    iexact Hat
  iapply Hk
  isplitl [Hz]; · iexact Hz
  isplitl [Hp]; · iexact Hp
  iexists _; iexact Ho

theorem Debt.lev_pos (d : Debt) : 0 < d.lev := by
  cases d with
  | bar d => exact Nat.one_pos
  | xf t => obtain ⟨h, i⟩ := t; fin_cases i <;> simp [Debt.lev, rlev]

/-- Waiting for the source of transfer `t`. -/
theorem step_sent {α : Type} {Q : α → sProp 𝕄} {k : PUnit → Prog (TpuEff nD τ sig (Elt F) Λ₀ .tc) α}
    (t : Xf) (l : List Debt) {sem : DmaSem sig} (hs : sem = sndS t)
    {src dst : Memref sig .tc .vmem S128x1024 .bf16} (hc : dst.view.dmaCredit = N)
    {h₁ : src.view.WordExact} {h₂ : dst.view.WordExact} :
    iprop(base (F := F) m K ∗ flying (F := F) c t ∗ owing c l)
      ⊢ iprop(((semVal (sndC t c) 0 ∗ sndPay m c t ∗ owing c l) -∗ run c (k ⟨⟩) Q)
          -∗ run c (.op (.waitDma2 sem src dst h₁ h₂) k) Q) := by
  subst hs
  iintro ⟨#Hb, Hkit, Ho⟩ Hk
  unfold owing flying
  icases Hkit with ⟨Hcr, Hat⟩
  icases Ho with ⟨%W, Ho⟩
  ihave Hc := (base_at m K (c, some (false, t))) $$ Hb
  icases Hc with ⟨#Hinv, -⟩
  ihave Hlev := (base_lev m K) $$ Hb
  iapply (Rounds.wp_wait_rest_token 𝒱₀ ER (Rd m) (c : Thread nD τ) none (κ := K (c, some (false, t)))
      (wpE_waitDma2_eq 𝒱₀ (c : Thread nD τ) none Set.univ) (Set.mem_univ _) () (O := OL c l) (W := W) (R := 0) (m := 0) (T := ∅)
      (by rw [Nat.zero_add, hc]; exact (expect_snd m t c).symm)) $$ [Hcr Hat Ho Hlev]
  · isplitr; · iexact Hinv
    isplitl [Hcr]; · rw [hc]; iexact Hcr
    isplitl [Ho]; · iexact Ho
    isplitl [Hlev]
    · iapply (mayWait c (.dma (sndS t)) l (by rw [kindOf_snd]; exact fun d _ => d.lev_pos)); iexact Hlev
    iexact Hat
  iintro ⟨Ho, Hat, -, Hpay⟩
  ihave Hp := (Entails.of_eq (rest_snd m t c)) $$ Hpay
  imod (Rounds.cell_close ER (Rd m) (Set.mem_univ (K (c, some (false, t)))) (fun h => h) (R := 0 + 1) (duties_later m (sndC t c))) $$ [Hat] with Hz
  · isplitr; · iexact Hinv
    iexact Hat
  iapply Hk
  isplitl [Hz]; · iexact Hz
  isplitl [Hp]; · iexact Hp
  iexists _; iexact Ho

/-- The block `M` of device `c`, written over by `X`, holds `X`. -/
theorem landed (p : Dev nD) (dst : Memref sig .tc .vmem S128x1024 .bf16) (X : FVec F S128x1024 .bf16) (fd : dst.view.ty.Contents (Elt F)) :
    (dst.view.loc (p : Thread nD τ) ↦[dst.view.set]{fullShare} (dst.view.write (Elt F) fd X Finset.univ) : sProp 𝕄) ⊢ has p dst fullShare X := by
  have h := owns_intro (Ix := Unit) (Name := ℕ) (U := UU) (Lvl := ℕ) (p : Thread nD τ) dst fullShare (dst.view.write (Elt F) fd X Finset.univ)
  rwa [View.read_write_univ] at h

/-- A block holds something, by definition. -/
theorem has_open (c : Dev nD) (M : Memref sig .tc .vmem S128x1024 .bf16) (q : PosShare TreeShare) (X : FVec F S128x1024 .bf16) :
    has c M q X ⊢ (iprop(∃ f, ⌜M.view.read (Elt F) f = X⌝ ∗ (M.view.loc (c : Thread nD τ) ↦[M.view.set]{q} f)) : sProp 𝕄) := .rfl

/-- A send in general: the source at share `q` goes to `P₁` or, with `lend`, together with the landed block to `P₂`. -/
theorem send_gen {α : Type} {Q : α → sProp 𝕄} {k : PUnit → Prog (TpuEff nD τ sig (Elt F) Λ₀ .tc) α} {p : Dev nD}
    {src dst : Memref sig .tc .vmem S128x1024 .bf16} {q : PosShare TreeShare} {X : FVec F S128x1024 .bf16} {sS sem : DmaSem sig} {κ₁ κ₂ : ℕ} (hN : dst.view.dmaCredit = N)
    (hd₁ : false ∈ (Rd (F := F) m).duties ((c : Thread nD τ), .dma sS) 0) (hd₂ : false ∈ (Rd (F := F) m).duties ((p : Thread nD τ), .dma sem) 0)
    (hk₁ : (Rd (F := F) m).amount ((c : Thread nD τ), .dma sS) 0 false = N) (hk₂ : (Rd (F := F) m).amount ((p : Thread nD τ), .dma sem) 0 false = N)
    (hp : (((emp : sProp 𝕄) ⊢ (Rd m).payload ((c : Thread nD τ), .dma sS) 0 false)
            ∧ (iprop(has p dst fullShare X ∗ has c src q X) ⊢ (Rd m).payload ((p : Thread nD τ), .dma sem) 0 false))
        ∨ ((has c src q X ⊢ (Rd m).payload ((c : Thread nD τ), .dma sS) 0 false)
            ∧ (has p dst fullShare X ⊢ (Rd m).payload ((p : Thread nD τ), .dma sem) 0 false)))
    {O₀ : CellTallies nD τ sig Unit} (O : CellTallies nD τ sig Unit) (hO : O₀ = O + tallyAt ((p : Thread nD τ), .dma sem) () N) {W : Waits sig Unit}
    {hsc : dst.view.ref.isScScratch = false} {h₁ : src.view.WordExact} {h₂ : dst.view.WordExact}
    {h₃ : DmaTarget.Typed (p := .tc) .vmem (.dma sem) (.remote (Dev.tc p : Thread nD τ) dst (.dma sS) hsc)} :
    iprop(cellInv ER (Rd m) κ₁ ((c : Thread nD τ), .dma sS) ∗ cellInv ER (Rd m) κ₂ ((p : Thread nD τ), .dma sem)
        ∗ has c src q X ∗ room (F := F) p dst ∗ owes (c : Thread nD τ) O₀ W
        ∗ dutyTok ER ((c : Thread nD τ), .dma sS) 0 false ∗ reached ER ((c : Thread nD τ), .dma sS) 0
        ∗ dutyTok ER ((p : Thread nD τ), .dma sem) 0 false ∗ reached ER ((p : Thread nD τ), .dma sem) 0)
      ⊢ iprop(((cred (tallyAt ((c : Thread nD τ), .dma sS) () N) ∗ owes (c : Thread nD τ) O W) -∗ run c (k ⟨⟩) Q)
          -∗ run c (.op (.enqueueDma src (.remote (Dev.tc p : Thread nD τ) dst (.dma sS) hsc) (.dma sem) h₁ h₂ h₃) k) Q) := by
  unfold room
  iintro ⟨Hi1, Hi2, Hsrc, ⟨%Y, Hdst⟩, Ho, Ht1, Hr1, Ht2, Hr2⟩
  ihave Hs := (has_open c src q X) $$ Hsrc
  icases Hs with ⟨%fs, %hfs, Hsrc⟩
  ihave Hd := (has_open p dst fullShare Y) $$ Hdst
  icases Hd with ⟨%fd, -, Hdst⟩
  have hland := landed (F := F) p dst X fd
  have hback : (src.view.loc (c : Thread nD τ) ↦[src.view.set]{q} fs : sProp 𝕄) ⊢ has c src q X := by
    rw [← hfs]; exact owns_intro (c : Thread nD τ) src q fs
  rcases hp with ⟨hp₁, hp₂⟩ | ⟨hp₁, hp₂⟩
  · iapply (Rounds.wp_send_landing_pointsTo 𝒱₀ ER (Rd m) (c : Thread nD τ) none (c' := (p : Thread nD τ)) (src := src) (dst := dst) (sS := .dma sS) (sem := .dma sem)
      (κ₁ := κ₁) (κ₂ := κ₂) (r₁ := 0) (r₂ := 0) (d₁ := false) (d₂ := false) (fs := fs) (fd := fd)
      hd₁ hd₂ () () N hN hk₁ hk₂ O hO (W := W) hp₁ (by rw [hfs]; exact (BIClass.sep_mono hland hback).trans hp₂))
    isplitl [Hi1]; · iexact Hi1
    isplitl [Hi2]; · iexact Hi2
    isplitl [Hsrc]; · iexact Hsrc
    isplitl [Hdst]; · iexact Hdst
    isplitl [Ho]; · iexact Ho
    isplitl [Ht1]; · iexact Ht1
    isplitl [Hr1]; · iexact Hr1
    isplitl [Ht2]; · iexact Ht2
    iexact Hr2
  · iapply (Rounds.wp_send_pointsTo 𝒱₀ ER (Rd m) (c : Thread nD τ) none (c' := (p : Thread nD τ)) (src := src) (dst := dst) (sS := .dma sS) (sem := .dma sem)
      (κ₁ := κ₁) (κ₂ := κ₂) (r₁ := 0) (r₂ := 0) (d₁ := false) (d₂ := false) (fs := fs) (fd := fd)
      hd₁ hd₂ () () N hN hk₁ hk₂ O hO (W := W) (hback.trans hp₁) (by rw [hfs]; exact hland.trans hp₂))
    isplitl [Hi1]; · iexact Hi1
    isplitl [Hi2]; · iexact Hi2
    isplitl [Hsrc]; · iexact Hsrc
    isplitl [Hdst]; · iexact Hdst
    isplitl [Ho]; · iexact Ho
    isplitl [Ht1]; · iexact Ht1
    isplitl [Hr1]; · iexact Hr1
    isplitl [Ht2]; · iexact Ht2
    iexact Hr2

theorem shr_early (t : Xf) (h : early t) : shr t = fullShare := by
  obtain ⟨b, i⟩ := t
  have h' : i.val < 3 := h
  unfold shr
  rw [if_neg (fun e => by rw [show i = 3 from e] at h'; exact absurd h' (by decide)), if_neg (fun e => by rw [show i = 4 from e] at h'; exact absurd h' (by decide))]

/-- Issuing transfer `t`. -/
theorem step_send {α : Type} {Q : α → sProp 𝕄} {k : PUnit → Prog (TpuEff nD τ sig (Elt F) Λ₀ .tc) α}
    (t : Xf) (l : List Debt) {n : Dev nD} (hn : n = peer t c) {src : Memref sig .tc .vmem S128x1024 .bf16} (hsrc : src = oB (srcK t c))
    {dst : Memref sig (Dev.tc n : Thread nD τ).2.kind .vmem S128x1024 .bf16} (hdst : dst = dstM t c)
    {sS sem : DmaSem sig} (hS : sS = sndS t) (hR : sem = rcvS t) {hsc : dst.view.ref.isScScratch = false}
    {h₁ : src.view.WordExact} {h₂ : dst.view.WordExact} {h₃ : DmaTarget.Typed .vmem (.dma sem) (.remote (Dev.tc n : Thread nD τ) dst (.dma sS) hsc)} :
    iprop(base (F := F) m K ∗ sendKit (F := F) c t ∗ has c (oB (srcK t c)) (shr t) (val m t c) ∗ room (F := F) (peer t c) (dstM t c) ∗ owing c (.xf t :: l))
      ⊢ iprop(((flying (F := F) c t ∗ owing c l) -∗ run c (k ⟨⟩) Q)
          -∗ run c (.op (.enqueueDma src (.remote (Dev.tc n : Thread nD τ) dst (.dma sS) hsc) (.dma sem) h₁ h₂ h₃) k) Q) := by
  subst hn hsrc hS hR
  change dst = dstM t c at hdst
  subst hdst
  iintro ⟨#Hb, Hkit, Hsrc, Hdst, Ho⟩ Hk
  unfold owing sendKit flying
  icases Hkit with ⟨Ht1, Ht2, Hat⟩
  icases Ho with ⟨%W, Ho⟩
  ihave Hc := (base_at m K (c, some (false, t))) $$ Hb
  icases Hc with ⟨Hi1, Hr1⟩
  ihave Hc := (base_at m K (peer t c, some (true, t))) $$ Hb
  icases Hc with ⟨Hi2, Hr2⟩
  have hp : (((emp : sProp 𝕄) ⊢ (Rd m).payload (sndC t c) 0 false)
            ∧ (iprop(has (peer t c) (dstM t c) fullShare (val m t c) ∗ has c (oB (srcK t c)) (shr t) (val m t c)) ⊢ (Rd m).payload (rcvC t (peer t c)) 0 false))
        ∨ ((has c (oB (srcK t c)) (shr t) (val m t c) ⊢ (Rd m).payload (sndC t c) 0 false)
            ∧ (has (peer t c) (dstM t c) fullShare (val m t c) ⊢ (Rd m).payload (rcvC t (peer t c)) 0 false)) := by
    rw [pay_snd, pay_rcv]; unfold sndPay rcvPay; rw [peer_peer]
    by_cases he : early t
    · left
      rw [if_pos he, if_pos he, shr_early t he]
      refine ⟨.rfl, sep_mono .rfl ?_⟩
      unfold room
      iintro H; iexists _; iexact H
    · right
      rw [if_neg he, if_neg he]
      exact ⟨.rfl, (sep_emp (PROP := sProp 𝕄)).2⟩
  iapply (send_gen m c (p := peer t c) (src := oB (srcK t c)) (dst := dstM t c) (q := shr t) (X := val m t c) (sS := sndS t) (sem := rcvS t)
      (κ₁ := K (c, some (false, t))) (κ₂ := K (peer t c, some (true, t))) (credit_dst t c)
      (by rw [duties_snd]; exact Finset.mem_singleton_self _) (by rw [duties_rcv]; exact Finset.mem_singleton_self _)
      (amount_snd m t c false) (amount_rcv m t (peer t c) false) hp (OL c l) (OL_cons c (.xf t) l) (W := W)) $$ [Hi1 Hi2 Hsrc Hdst Ho Ht1 Hr1 Ht2 Hr2]
  · isplitl [Hi1]; · iexact Hi1
    isplitl [Hi2]; · iexact Hi2
    isplitl [Hsrc]; · iexact Hsrc
    isplitl [Hdst]; · iexact Hdst
    isplitl [Ho]; · iexact Ho
    isplitl [Ht1]; · iexact Ht1
    isplitl [Hr1]; · iexact Hr1
    isplitl [Ht2]; · iexact Ht2
    iexact Hr2
  iintro ⟨Hcr, Ho⟩
  iapply Hk
  isplitl [Hcr Hat]
  · isplitl [Hcr]; · iexact Hcr
    iexact Hat
  iexists W; iexact Ho

end Rules

end Cert.KernelIdeal.AllReduce

end
-- ==== Proof.KernelIdeal.Access.lean ====
/-
# Loads and stores

One rule per access of the body: the first fill of two neighbouring blocks of the accumulator from `x`, and the
addition of a landed block to a block of the accumulator.
-/
module

public import proofs.«01_k».proof.Proof.KernelIdeal.Sync

@[expose] public section

noncomputable section

namespace Cert.KernelIdeal.AllReduce

open Cert.KernelIdeal Cert.KernelIdeal.Gen
open Idealize.ShloMosaic Idealize.ShloMosaic.TcCoe
open Idealize.ShloMosaic.ValueIdx (ix2 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- Loading a slice that is held. -/
theorem step_load {α : Type} {Q : α → sProp 𝕄} {s : Shape} {M : Memref sig .tc .vmem s .bf16} {r : Rect s} {hl : M.view.LoadsAt r}
    {k : (r.shape.Idx → Elt F .bf16) → Prog (TpuEff nD τ sig (Elt F) Λ₀ .tc) α} (hr : ∀ a, r.stride a = 1)
    (q : PosShare TreeShare) (X : r.shape.Idx → Elt F .bf16) :
    (owns (c : Thread nD τ) (M.slice r hr) q X : sProp 𝕄)
      ⊢ iprop((owns (c : Thread nD τ) (M.slice r hr) q X -∗ run c (k X) Q) -∗ run c (.op (.load M r hl) k) Q) := by
  iintro H Hk
  ihave H' := (show owns (c : Thread nD τ) (M.slice r hr) q X
      ⊢ (iprop(∃ f, ⌜(M.slice r hr).view.read (Elt F) f = X⌝ ∗ ((M.slice r hr).view.loc (c : Thread nD τ) ↦[(M.slice r hr).view.set]{q} f)) : sProp 𝕄)
      from .rfl) $$ H
  icases H' with ⟨%f, %hf, H⟩
  iapply (wp_load_rect (m := M) (r := r) 𝒱₀ (c : Thread nD τ) none Set.univ (f := f) (S := (M.access r).set) subset_rfl) $$ [H]
  · iexact H
  iintro H
  rw [show (M.access r).read (Elt F) f = X from hf]
  iapply Hk
  rw [← hf]
  iapply (owns_intro (c : Thread nD τ) (M.slice r hr) q f)
  iexact H

/-- Storing a whole slice that is held. -/
theorem step_store {α : Type} {Q : α → sProp 𝕄} {s : Shape} {M : Memref sig .tc .vmem s .bf16} {r : Rect s} {w : r.shape.Idx → Elt F .bf16}
    {hx : (M.access r).Stores Finset.univ} {hm : (Finset.univ : Finset r.shape.Idx) = Finset.univ ∨ ∀ a, r.stride a = 1}
    {k : PUnit → Prog (TpuEff nD τ sig (Elt F) Λ₀ .tc) α} (hr : ∀ a, r.stride a = 1) (X : r.shape.Idx → Elt F .bf16) :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  iintro H Hk
  ihave H' := (show owns (c : Thread nD τ) (M.slice r hr) fullShare X
      ⊢ (iprop(∃ f, ⌜(M.slice r hr).view.read (Elt F) f = X⌝ ∗ ((M.slice r hr).view.loc (c : Thread nD τ) ↦[(M.slice r hr).view.set]{fullShare} f)) : sProp 𝕄)
      from .rfl) $$ H
  icases H' with ⟨%f, -, H⟩
  iapply (wp_store (m := M) (r := r) 𝒱₀ (c : Thread nD τ) none Set.univ (f := f) (w := w) (S := (M.access r).set) (by rw [View.setOn_univ])) $$ [H]
  · iexact H
  iintro H
  iapply Hk
  ihave H := (owns_intro (c : Thread nD τ) (M.slice r hr) fullShare ((M.access r).write (Elt F) f w Finset.univ)) $$ H
  rw [show (M.slice r hr).view.read (Elt F) ((M.access r).write (Elt F) f w Finset.univ) = w from View.read_write_univ _ _]
  iexact H

/-- A slice at the printed offsets of block `k` is the block. -/
theorem slice_eq (k : Fin 8) {off : Fin 2 → ℕ} (ho : off = ![128 * k.val, 0]) (inb : ∀ a, off a + S128x1024.size a ≤ S1024x1024.size a) :
    oM.slice (Rect.unit (s := S1024x1024) off S128x1024.size inb) (fun _ => rfl) = oB k := by
  subst ho; rfl

/-- Adding the landed block `B` to block `k` of the accumulator. -/
theorem step_add {α : Type} {Q : α → sProp 𝕄} (k : Fin 8) (X Y : FVec F S128x1024 .bf16) (B : Memref sig .tc .vmem S128x1024 .bf16)
    {off : Fin 2 → ℕ} (ho : off = ![128 * k.val, 0]) {inb : ∀ a, off a + S128x1024.size a ≤ S1024x1024.size a}
    {sz : Fin 2 → ℕ} {M : Memref sig .tc .vmem ⟨2, sz⟩ .bf16} {off' : Fin 2 → ℕ} {inb' : ∀ a, off' a + S128x1024.size a ≤ sz a}
    (hB : (has c B fullShare Y : sProp 𝕄) = has c (M.slice (Rect.unit (s := ⟨2, sz⟩) off' S128x1024.size inb') (fun _ => rfl)) fullShare Y)
    {pay : FVec F S128x1024 .bf16 → FVec F S128x1024 .bf16 → FVec F S128x1024 .bf16} (hp : ∀ v w, pay v w = addf v w)
    {h₁ h₂ h₃ h₄ h₅} {kont : PUnit → Prog (TpuEff nD τ sig (Elt F) Λ₀ .tc) α} :
    iprop(has c (oB k) fullShare X ∗ has c B fullShare Y)
      ⊢ iprop(((has c (oB k) fullShare (addf X Y) ∗ has c B fullShare Y) -∗ run c (kont ⟨⟩) Q)
        -∗ run c (.op (.load oM (Rect.unit (s := S1024x1024) off S128x1024.size inb).toLoadRect h₁) fun (v : FVec F S128x1024 .bf16) =>
            .op (.load M (Rect.unit (s := ⟨2, sz⟩) off' S128x1024.size inb').toLoadRect h₂) fun (w : FVec F S128x1024 .bf16) =>
            .op (.load oM (Rect.unit (s := S1024x1024) off S128x1024.size inb).toLoadRect h₃) fun _ =>
            .op (.store oM (Rect.unit (s := S1024x1024) off S128x1024.size inb) (pay v w) Finset.univ h₄ h₅) kont) Q) := by
  subst ho
  rw [hB]
  iintro ⟨HX, HY⟩ Hk
  iapply (step_load (M := oM) (r := rO k) c (fun _ => rfl) fullShare X) $$ [HX]; · iexact HX
  iintro HX
  iapply (step_load (M := M) (r := Rect.unit (s := ⟨2, sz⟩) off' S128x1024.size inb') c (fun _ => rfl) fullShare Y) $$ [HY]; · iexact HY
  iintro HY
  iapply (step_load (M := oM) (r := rO k) c (fun _ => rfl) fullShare X) $$ [HX]; · iexact HX
  iintro HX
  iapply (step_store (M := oM) (r := rO k) c (fun _ => rfl) X) $$ [HX]; · iexact HX
  rw [hp]
  iintro HX
  iapply Hk
  isplitl [HX]; · iexact HX
  iexact HY

/-! ## Filling two blocks -/

theorem inbQ (g : Fin 4) : ∀ a, (![256 * g.val, 0] : Fin 2 → Nat) a + S256x1024.size a ≤ S1024x1024.size a := by
  revert g; decide
/-- Two neighbouring blocks: quarter `g` of the array. -/
abbrev rQ (g : Fin 4) : Rect S1024x1024 := Rect.unit (s := S1024x1024) ![256 * g.val, 0] S256x1024.size (inbQ g)
abbrev oQ (g : Fin 4) : Memref sig .tc .vmem S256x1024 .bf16 := oM.slice (rQ g) (fun _ => rfl)

/-- The blocks of quarter `g`. -/
def qB (g : Fin 4) (i : Fin 2) : Fin 8 := ⟨2 * g.val + i.val, by omega⟩

theorem disj_R (i j : Fin 2) (h : i ≠ j) : Disjoint (rR i).set (rR j).set := by
  refine Rect.unit_disjoint 0 ?_
  revert i j; decide

theorem cover_R : (Finset.univ : Finset (Fin 2)).biUnion (fun i => (rR i).set) = Finset.univ := by
  ext j
  refine ⟨fun _ => Finset.mem_univ _, fun _ => ?_⟩
  have h0 : (j 0).val < 256 := (j 0).isLt
  have h1 : (j 1).val < 1024 := (j 1).isLt
  refine Finset.mem_biUnion.mpr ⟨⟨(j 0).val / 128, by omega⟩, Finset.mem_univ _, Rect.mem_set_unit.mpr fun a => ?_⟩
  fin_cases a
  · show 128 * ((j 0).val / 128) ≤ (j 0).val ∧ (j 0).val < 128 * ((j 0).val / 128) + 128
    omega
  · show 0 ≤ (j 1).val ∧ (j 1).val < 0 + 1024
    omega

theorem emb_emb (g : Fin 4) (i : Fin 2) (j : S128x1024.Idx) : (rQ g).emb ((rR i).emb j) = (rO (qB g i)).emb j := by
  funext a
  refine Fin.ext ?_
  rw [ValueKit.rect_emb_unit_val, ValueKit.rect_emb_unit_val, ValueKit.rect_emb_unit_val]
  fin_cases a
  · show 256 * g.val + (128 * i.val + (j 0).val) = 128 * (2 * g.val + i.val) + (j 0).val
    omega
  · show 0 + (0 + (j 1).val) = 0 + (j 1).val
    rw [Nat.zero_add]

theorem owns_qB (g : Fin 4) (i : Fin 2) (X : FVec F S128x1024 .bf16) :
    (owns (c : Thread nD τ) ((oQ g).slice (rR i) (fun _ => rfl)) fullShare X : sProp 𝕄) = has c (oB (qB g i)) fullShare X := by
  have he : ((oM.view.slice (rQ g)).slice (rR i)).emb = (oM.view.slice (rO (qB g i))).emb := DFunLike.ext _ _ fun j => emb_emb g i j
  have hset : ((oQ g).slice (rR i) (fun _ => rfl)).view.set = (oB (qB g i)).view.set := congrArg (Finset.map · Finset.univ) he
  have hread : ∀ f, ((oQ g).slice (rR i) (fun _ => rfl)).view.read (Elt F) f = (oB (qB g i)).view.read (Elt F) f := fun f => by
    funext j
    exact congrArg f (emb_emb g i j)
  unfold owns
  simp only [hread, hset]
  rfl

/-- An array of 256 rows is its upper and its lower block. -/
theorem pair_split (M : Memref sig .tc .vmem S256x1024 .bf16) (X : FVec F S256x1024 .bf16) :
    (owns (c : Thread nD τ) M fullShare X : sProp 𝕄)
      ⊢ iprop(has c (M.slice (rR 0) (fun _ => rfl)) fullShare (fun j => X ((rR 0).emb j)) ∗ has c (M.slice (rR 1) (fun _ => rfl)) fullShare (fun j => X ((rR 1).emb j))) := by
  refine (owns_rects (Val := Elt F) (c : Thread nD τ) M fullShare rR (fun _ _ => rfl) disj_R cover_R X).trans ?_
  rw [bigSep_univ_eq_bigSepL [0, 1] (by decide) (by decide), bigSepL_cons_cons, bigSepL_singleton]
  exact .rfl

theorem pair_join (M : Memref sig .tc .vmem S256x1024 .bf16) :
    iprop(room (F := F) c (M.slice (rR 0) (fun _ => rfl)) ∗ room (F := F) c (M.slice (rR 1) (fun _ => rfl)))
      ⊢ (iprop(∃ X, owns (c : Thread nD τ) M fullShare X) : sProp 𝕄) := by
  haveI hn : ∀ e, Nonempty (Elt F e) := Elt.nonempty F
  unfold room
  iintro ⟨⟨%X, HX⟩, ⟨%Y, HY⟩⟩
  have hX : ∀ j, (rR 0).overlay ((rR 1).overlay (fun _ => Classical.choice (hn .bf16)) Y) X ((rR 0).emb j) = X j :=
    fun j => Rect.overlay_emb _ _ _ j
  have hY : ∀ j, (rR 0).overlay ((rR 1).overlay (fun _ => Classical.choice (hn .bf16)) Y) X ((rR 1).emb j) = Y j := fun j => by
    rw [Rect.overlay_of_not_mem, Rect.overlay_emb]
    exact Finset.disjoint_right.mp (disj_R 0 1 (by decide)) (by rw [← Rect.map_emb_univ]; exact Finset.mem_map_of_mem _ (Finset.mem_univ j))
  have hj : iprop(has c (M.slice (rR 0) (fun _ => rfl)) fullShare X ∗ has c (M.slice (rR 1) (fun _ => rfl)) fullShare Y)
      ⊢ (owns (c : Thread nD τ) M fullShare ((rR 0).overlay ((rR 1).overlay (fun _ => Classical.choice (hn .bf16)) Y) X) : sProp 𝕄) := by
    refine BIBase.Entails.trans ?_ (owns_of_rects (Val := Elt F) (c : Thread nD τ) M fullShare rR (fun _ _ => rfl) disj_R cover_R _)
    rw [bigSep_univ_eq_bigSepL [0, 1] (by decide) (by decide), bigSepL_cons_cons, bigSepL_singleton]
    simp only [hX, hY]
    exact .rfl
  iexists _
  iapply hj
  isplitl [HX]; · iexact HX
  iexact HY

/-- A quarter is its two blocks. -/
theorem quarter_split (g : Fin 4) (X : FVec F S256x1024 .bf16) (Y : Fin 2 → FVec F S128x1024 .bf16) (h : ∀ i j, X ((rR i).emb j) = Y i j) :
    (owns (c : Thread nD τ) (oQ g) fullShare X : sProp 𝕄) ⊢ iprop(has c (oB (qB g 0)) fullShare (Y 0) ∗ has c (oB (qB g 1)) fullShare (Y 1)) := by
  refine (pair_split c (oQ g) X).trans ?_
  unfold has
  rw [owns_qB, owns_qB]
  simp only [h]
  exact .rfl

theorem quarter_join (g : Fin 4) :
    iprop(room (F := F) c (oB (qB g 0)) ∗ room (F := F) c (oB (qB g 1))) ⊢ (iprop(∃ X, owns (c : Thread nD τ) (oQ g) fullShare X) : sProp 𝕄) := by
  have h := pair_join (F := F) c (oQ g)
  unfold room at h ⊢
  simp only [owns_qB] at h
  exact h

/-! ## The whole accumulator and its eight blocks -/

theorem disj_O (k l : Fin 8) (h : k ≠ l) : Disjoint (rO k).set (rO l).set := by
  refine Rect.unit_disjoint 0 ?_
  revert k l; decide

theorem cover_O : (Finset.univ : Finset (Fin 8)).biUnion (fun k => (rO k).set) = Finset.univ := by
  ext j
  refine ⟨fun _ => Finset.mem_univ _, fun _ => ?_⟩
  have h0 : (j 0).val < 1024 := (j 0).isLt
  have h1 : (j 1).val < 1024 := (j 1).isLt
  refine Finset.mem_biUnion.mpr ⟨⟨(j 0).val / 128, by omega⟩, Finset.mem_univ _, Rect.mem_set_unit.mpr fun a => ?_⟩
  fin_cases a
  · show 128 * ((j 0).val / 128) ≤ (j 0).val ∧ (j 0).val < 128 * ((j 0).val / 128) + 128
    omega
  · show 0 ≤ (j 1).val ∧ (j 1).val < 0 + 1024
    omega

/-- The blocks of the accumulator, in the order of the devices that reduce them. -/
def order (c : Dev nD) : List (Fin 8) :=
  [kk false c, kk false (snd false c), kk false (nb false c), kk false (opp c), kk true c, kk true (snd true c), kk true (nb true c), kk true (opp c)]

theorem order_nodup (c : Dev nD) : (order c).Nodup := by revert c; decide
theorem order_univ (c : Dev nD) : (Finset.univ : Finset (Fin 8)) = (order c).toFinset := by revert c; decide

theorem acc_blocks (X : FVec F S1024x1024 .bf16) :
    (owns (c : Thread nD τ) oM fullShare X : sProp 𝕄) ⊣⊢ bigSepL (order c) fun k => has c (oB k) fullShare (blk k X) := by
  haveI hn : ∀ e, Nonempty (Elt F e) := Elt.nonempty F
  have e : (bigSep Finset.univ fun k => has c (oB k) fullShare (blk k X) : sProp 𝕄) = bigSepL (order c) fun k => has c (oB k) fullShare (blk k X) :=
    bigSep_eq_bigSepL_of_eq (order c) (order_univ c) (order_nodup c) _
  rw [← e]
  exact ⟨owns_rects (Val := Elt F) (c : Thread nD τ) oM fullShare rO (fun _ _ => rfl) disj_O cover_O X,
    owns_of_rects (Val := Elt F) (c : Thread nD τ) oM fullShare rO (fun _ _ => rfl) disj_O cover_O X⟩

/-- The rows `256 g …` of `x`, loaded and taken as a matrix. -/
theorem load_x (g : Fin 4) {off : Fin 4 → ℕ} (ho : off = ![0, 0, 256 * g.val, 0])
    (inb : ∀ a, off a + S1x1x256x1024.size a ≤ S1x1x1024x1024.size a) (i : S256x1024.Idx) :
    shapeCast S256x1024 (fun j => xstg m c ((Rect.unit (s := S1x1x1024x1024) off S1x1x256x1024.size inb).emb j)) shapeCasts_S1x1x256x1024_S256x1024 i
      = xw m c ((rQ g).emb i) := by
  subst ho
  obtain ⟨a, b, rfl⟩ : ∃ (a : Fin 256) (b : Fin 1024), i = ValueIdx.ix2 a b := ⟨i 0, i 1, ValueIdx.eq_ix2 i⟩
  have hr : Shape.reshapeEquiv shapeCasts_S1x1x256x1024_S256x1024 (ValueIdx.ix2 a b) = ix4 (0 : Fin 1) (0 : Fin 1) a b :=
    ValueIdx.reshapeEquiv_ix2_11ab _ a b
  refine congrArg (xstg m c) ((congrArg _ hr).trans ?_)
  funext d
  refine Fin.ext ?_
  rw [ValueKit.rect_emb_unit_val]
  fin_cases d
  · rfl
  · rfl
  · show 256 * g.val + a.val = ((rQ g).emb (ValueIdx.ix2 a b) 0).val
    rw [ValueKit.rect_emb_unit_val]; rfl
  · show 0 + b.val = ((rQ g).emb (ValueIdx.ix2 a b) 1).val
    rw [ValueKit.rect_emb_unit_val]; rfl

/-- Filling the two blocks of quarter `g` from `x`. -/
theorem step_fill {α : Type} {Q : α → sProp 𝕄} (g : Fin 4) (q : PosShare TreeShare)
    {off : Fin 4 → ℕ} (ho : off = ![0, 0, 256 * g.val, 0]) {inb : ∀ a, off a + S1x1x256x1024.size a ≤ S1x1x1024x1024.size a}
    {off' : Fin 2 → ℕ} (ho' : off' = ![256 * g.val, 0]) {inb' : ∀ a, off' a + S256x1024.size a ≤ S1024x1024.size a}
    {pay : FVec F S1x1x256x1024 .bf16 → FVec F S256x1024 .bf16} (hp : ∀ v, pay v = shapeCast S256x1024 v shapeCasts_S1x1x256x1024_S256x1024)
    {h₁ h₂ h₃ h₄} {kont : PUnit → Prog (TpuEff nD τ sig (Elt F) Λ₀ .tc) α} :
    iprop(owns (c : Thread nD τ) xM q (xstg m c) ∗ room (F := F) c (oB (qB g 0)) ∗ room (F := F) c (oB (qB g 1)))
      ⊢ iprop(((owns (c : Thread nD τ) xM q (xstg m c) ∗ has c (oB (qB g 0)) fullShare (blk (qB g 0) (xw m c))
              ∗ has c (oB (qB g 1)) fullShare (blk (qB g 1) (xw m c))) -∗ run c (kont ⟨⟩) Q)
        -∗ run c (.op (.load xM (Rect.unit (s := S1x1x1024x1024) off S1x1x256x1024.size inb).toLoadRect h₁) fun (v : FVec F S1x1x256x1024 .bf16) =>
            .op (.load oM (Rect.unit (s := S1024x1024) off' S256x1024.size inb').toLoadRect h₂) fun _ =>
            .op (.store oM (Rect.unit (s := S1024x1024) off' S256x1024.size inb') (pay v) Finset.univ h₃ h₄) kont) Q) := by
  subst ho'
  iintro ⟨Hx, HR⟩ Hk
  ihave Hx' := (show owns (c : Thread nD τ) xM q (xstg m c)
      ⊢ (iprop(∃ f, ⌜xM.view.read (Elt F) f = xstg m c⌝ ∗ (xM.view.loc (c : Thread nD τ) ↦[xM.view.set]{q} f)) : sProp 𝕄)
      from .rfl) $$ Hx
  icases Hx' with ⟨%f, %hf, Hx⟩
  iapply (wp_load_rect (m := xM) (r := Rect.unit (s := S1x1x1024x1024) off S1x1x256x1024.size inb) 𝒱₀ (c : Thread nD τ) none Set.univ (f := f) (S := xM.view.set)
    (View.set_slice_subset _ _)) $$ [Hx]
  · iexact Hx
  iintro Hx
  ihave HQ := (quarter_join c g) $$ HR
  icases HQ with ⟨%X, HQ⟩
  iapply (step_load (M := oM) (r := rQ g) c (fun _ => rfl) fullShare X) $$ [HQ]; · iexact HQ
  iintro HQ
  iapply (step_store (M := oM) (r := rQ g) c (fun _ => rfl) X) $$ [HQ]; · iexact HQ
  iintro HQ
  have hv : ∀ i, pay ((xM.access (Rect.unit (s := S1x1x1024x1024) off S1x1x256x1024.size inb)).read (Elt F) f) i = xw m c ((rQ g).emb i) := fun i => by
    rw [hp, ← load_x m c g ho inb i, ← hf]; rfl
  ihave HQ := (quarter_split c g _ (fun j => blk (qB g j) (xw m c)) (fun j i => by rw [hv, emb_emb]; rfl)) $$ HQ
  iapply Hk
  isplitl [Hx]
  · rw [← hf]; iapply (owns_intro (c : Thread nD τ) xM q f); iexact Hx
  iexact HQ

/-! ## The second landing buffer, read whole -/

theorem rs2_slice (h : Bool) (inb : ∀ a, (![0, 0] : Fin 2 → ℕ) a + S128x1024.size a ≤ S128x1024.size a) (X : FVec F S128x1024 .bf16) :
    (has c (rs2 h) fullShare X : sProp 𝕄)
      = has c ((rs2 h).slice (Rect.unit (s := S128x1024) ![0, 0] S128x1024.size inb) (fun _ => rfl)) fullShare X := by
  have he : ∀ j, (Rect.unit (s := S128x1024) ![0, 0] S128x1024.size inb).emb j = j := fun j => by
    funext a; refine Fin.ext ?_
    rw [ValueKit.rect_emb_unit_val]
    fin_cases a <;> exact Nat.zero_add _
  have he' : ((rs2 h).view.slice (Rect.unit (s := S128x1024) ![0, 0] S128x1024.size inb)).emb = (rs2 h).view.emb :=
    DFunLike.ext _ _ fun j => congrArg (rs2 h).view.emb (he j)
  have hset : (rs2 h).view.set = ((rs2 h).slice (Rect.unit (s := S128x1024) ![0, 0] S128x1024.size inb) (fun _ => rfl)).view.set :=
    (congrArg (Finset.map · Finset.univ) he').symm
  have hread : ∀ f, (rs2 h).view.read (Elt F) f = ((rs2 h).slice (Rect.unit (s := S128x1024) ![0, 0] S128x1024.size inb) (fun _ => rfl)).view.read (Elt F) f := fun f => by
    funext j
    show cast _ (f ((rs2 h).view.emb j)) = cast _ (f ((rs2 h).view.emb _))
    rw [he j]
  unfold has owns
  rw [hset]
  simp only [hread]

end Cert.KernelIdeal.AllReduce

end
-- ==== Proof.KernelIdeal.Exchange.lean ====
/-
# What each wait brings

For both halves and every device: which block a landing brings, with which contents, and where the result then lies.
Together with the rules of the accesses this is all the body needs.
-/
module

public import proofs.«01_k».proof.Proof.KernelIdeal.Access
public import Idealize.ShloMosaic.Lib.MemrefSat

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- Block `kk h p` of device `c`'s accumulator holding its part of `X`. -/
abbrev acc (c : Dev nD) (h : Bool) (p : Dev nD) (X : FVec F S1024x1024 .bf16) : sProp 𝕄 :=
  has c (oB (kk h p)) fullShare (blk (kk h p) X)

/-! ## The places of the mesh -/

theorem opp_nb (h : Bool) (c : Dev nD) : opp (nb h c) = snd h c := by revert h c; decide
theorem snd_nb (h : Bool) (c : Dev nD) : snd h (nb h c) = opp c := by revert h c; decide
theorem snd_snd (h : Bool) (c : Dev nD) : snd h (snd h c) = c := nb_nb _ c

theorem dev_of {n : ℕ} {h : n < nD} {p : Dev nD} (e : n = p.val) : (⟨n, h⟩ : Dev nD) = p := Fin.ext e

/-! ## Landings -/

theorem peer_nb (h : Bool) (i : Fin 6) (hi : ¬(i = 2 ∨ i = 3)) (c : Dev nD) : peer (h, i) c = nb h c := if_neg hi
theorem peer_snd (h : Bool) (i : Fin 6) (hi : i = 2 ∨ i = 3) (c : Dev nD) : peer (h, i) c = snd h c := if_pos hi

theorem early_of (h : Bool) (i : Fin 6) (hi : i.val < 3) : early (h, i) := hi
theorem late_of (h : Bool) (i : Fin 6) (hi : ¬i.val < 3) : ¬early (h, i) := hi

theorem rcv0 (h : Bool) : rcvPay m c (h, 0)
    = iprop(has c (rs1B h 0) fullShare (blk (kk h (snd h c)) (xw m (nb h c))) ∗ room (F := F) (nb h c) (oB (kk h (snd h c)))) := by
  unfold rcvPay
  rw [if_pos (early_of h 0 (by decide)), peer_nb h 0 (by decide)]
  show iprop(has c (rs1B h 0) fullShare (blk (kk h (opp (nb h c))) (xw m (nb h c))) ∗ room (F := F) (nb h c) (oB (kk h (opp (nb h c))))) = _
  rw [opp_nb]

theorem rcv1 (h : Bool) : rcvPay m c (h, 1)
    = iprop(has c (rs1B h 1) fullShare (blk (kk h c) (xw m (nb h c))) ∗ room (F := F) (nb h c) (oB (kk h c))) := by
  unfold rcvPay
  rw [if_pos (early_of h 1 (by decide)), peer_nb h 1 (by decide)]
  show iprop(has c (rs1B h 1) fullShare (blk (kk h (nb h (nb h c))) (xw m (nb h c))) ∗ room (F := F) (nb h c) (oB (kk h (nb h (nb h c))))) = _
  rw [nb_nb]

theorem rcv2 (h : Bool) : rcvPay m c (h, 2)
    = iprop(has c (rs2 h) fullShare (blk (kk h c) (s1 m h (snd h c))) ∗ room (F := F) (snd h c) (oB (kk h c))) := by
  unfold rcvPay
  rw [if_pos (early_of h 2 (by decide)), peer_snd h 2 (by decide)]
  show iprop(has c (rs2 h) fullShare (blk (kk h (snd h (snd h c))) (s1 m h (snd h c))) ∗ room (F := F) (snd h c) (oB (kk h (snd h (snd h c))))) = _
  rw [snd_snd]

theorem rcv3 (h : Bool) : rcvPay m c (h, 3) ⊢ acc c h (snd h c) (fin m) := by
  unfold rcvPay
  rw [if_neg (late_of h 3 (by decide)), peer_snd h 3 (by decide)]
  exact (sep_emp (PROP := sProp 𝕄)).1

theorem rcv4 (h : Bool) : rcvPay m c (h, 4) ⊢ acc c h (nb h c) (fin m) := by
  unfold rcvPay
  rw [if_neg (late_of h 4 (by decide)), peer_nb h 4 (by decide)]
  exact (sep_emp (PROP := sProp 𝕄)).1

theorem rcv5 (h : Bool) : rcvPay m c (h, 5) ⊢ acc c h (opp c) (fin m) := by
  unfold rcvPay
  rw [if_neg (late_of h 5 (by decide)), peer_nb h 5 (by decide), ← snd_nb h c]
  exact (sep_emp (PROP := sProp 𝕄)).1

/-! ## Sources that come back -/

theorem snd5 (h : Bool) : sndPay m c (h, 5) = acc c h (snd h c) (fin m) := if_neg (late_of h 5 (by decide))

/-- The reduced block was sent twice, half of its share each time. -/
theorem snd34 (h : Bool) : iprop(sndPay m c (h, 3) ∗ sndPay m c (h, 4)) ⊣⊢ acc c h c (fin m) := by
  unfold sndPay
  rw [if_neg (late_of h 3 (by decide)), if_neg (late_of h 4 (by decide))]
  exact ⟨(owns_halves (c : Thread nD τ) (oB (kk h c)) fullShare _).2, (owns_halves (c : Thread nD τ) (oB (kk h c)) fullShare _).1⟩

/-! ## Filling and adding, by block -/

/-- `step_fill` for the blocks of `p` and `p'`, in whichever order they lie. -/
theorem fill {α : Type} {Q : α → sProp 𝕄} (h : Bool) (p p' : Dev nD) (g : Fin 4) (q : PosShare TreeShare)
    (hg : (qB g 0 = kk h p ∧ qB g 1 = kk h p') ∨ (qB g 0 = kk h p' ∧ qB g 1 = kk h p))
    {off : Fin 4 → ℕ} (ho : off = ![0, 0, 256 * g.val, 0]) {inb : ∀ a, off a + S1x1x256x1024.size a ≤ S1x1x1024x1024.size a}
    {off' : Fin 2 → ℕ} (ho' : off' = ![256 * g.val, 0]) {inb' : ∀ a, off' a + S256x1024.size a ≤ S1024x1024.size a}
    {pay : FVec F S1x1x256x1024 .bf16 → FVec F S256x1024 .bf16} (hp : ∀ v, pay v = shapeCast S256x1024 v shapeCasts_S1x1x256x1024_S256x1024)
    {h₁ h₂ h₃ h₄} {kont : PUnit → Prog (TpuEff nD τ sig (Elt F) Λ₀ .tc) α} :
    iprop(owns (c : Thread nD τ) xM q (xstg m c) ∗ room (F := F) c (oB (kk h p)) ∗ room (F := F) c (oB (kk h p')))
      ⊢ iprop(((owns (c : Thread nD τ) xM q (xstg m c) ∗ acc c h p (xw m c) ∗ acc c h p' (xw m c)) -∗ run c (kont ⟨⟩) Q)
        -∗ run c (.op (.load xM (Rect.unit (s := S1x1x1024x1024) off S1x1x256x1024.size inb).toLoadRect h₁) fun (v : FVec F S1x1x256x1024 .bf16) =>
            .op (.load oM (Rect.unit (s := S1024x1024) off' S256x1024.size inb').toLoadRect h₂) fun _ =>
            .op (.store oM (Rect.unit (s := S1024x1024) off' S256x1024.size inb') (pay v) Finset.univ h₃ h₄) kont) Q) := by
  iintro ⟨Hx, H1, H2⟩ Hk
  rcases hg with ⟨e0, e1⟩ | ⟨e0, e1⟩
  · iapply (step_fill m c g q ho ho' hp) $$ [Hx H1 H2]
    · rw [e0, e1]
      isplitl [Hx]; · iexact Hx
      isplitl [H1]; · iexact H1
      iexact H2
    rw [e0, e1]
    iexact Hk
  · iapply (step_fill m c g q ho ho' hp) $$ [Hx H1 H2]
    · rw [e0, e1]
      isplitl [Hx]; · iexact Hx
      isplitl [H2]; · iexact H2
      iexact H1
    rw [e0, e1]
    iintro ⟨Hx, H2, H1⟩
    iapply Hk
    isplitl [Hx]; · iexact Hx
    isplitl [H1]; · iexact H1
    iexact H2

theorem rs1_slice (h : Bool) (i : Fin 2) (X : FVec F S128x1024 .bf16) {off : Fin 2 → ℕ} (ho : off = ![128 * i.val, 0])
    (inb : ∀ a, off a + S128x1024.size a ≤ S256x1024.size a) :
    (has c (rs1B h i) fullShare X : sProp 𝕄) = has c ((rs1 h).slice (Rect.unit (s := S256x1024) off S128x1024.size inb) (fun _ => rfl)) fullShare X := by
  subst ho; rfl

theorem has_room (M : Memref sig .tc .vmem S128x1024 .bf16) (X : FVec F S128x1024 .bf16) : has c M fullShare X ⊢ room (F := F) c M := by
  unfold room
  iintro H; iexists X; iexact H

end Cert.KernelIdeal.AllReduce

end
-- ==== Proof.KernelIdeal.BodyA.lean ====
/-
# The body, first half

The barrier, the fills, and the first exchange of both halves, at a device `c`.
-/
module

public import proofs.«01_k».proof.Proof.KernelIdeal.Exchange

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The staged block of `x`. -/
abbrev xHeld (c : Dev nD) : sProp 𝕄 := owns (c : Thread nD τ) xM fullShare (xstg m c)

abbrev b0 : Memref sig .tc .vmem S256x1024 .bf16 := Memref.whole cc0_scratch0
abbrev b1 : Memref sig .tc .vmem S256x1024 .bf16 := Memref.whole cc0_scratch1
abbrev b2 : Memref sig .tc .vmem S128x1024 .bf16 := Memref.whole cc0_scratch2
abbrev b3 : Memref sig .tc .vmem S128x1024 .bf16 := Memref.whole cc0_scratch3

theorem run_ret {α : Type} (c : Dev nD) (a : α) (Q : α → sProp 𝕄) : Q a ⊢ run (F := F) c (.ret a) Q := le_wp_ret _ _ _ _ _

section Parts

variable {h0 : xM.IsWhole} {h1 : oM.IsWhole} {h2 : b0.IsWhole} {h3 : b1.IsWhole} {h4 : b2.IsWhole} {h5 : b3.IsWhole}

theorem part1 {Q : (Σ' (d0 : Dev nD) (v2 : BitVec 32) (v5 : BitVec 32) (v6 : BitVec 32) (v7 : BitVec 32) (v17 : BitVec 32) (v19 : BitVec 32) (v21 : BitVec 32) (v24 : BitVec 32) (v26 : BitVec 32), BitVec 32) → sProp 𝕄} :
    iprop(base (F := F) m K ∗ barKit (F := F) c
        ∗ (room (F := F) c (rs1B false 0) ∗ room (F := F) c (rs1B false 1) ∗ room (F := F) c (rs2 true))
        ∗ (room (F := F) c (rs1B true 0) ∗ room (F := F) c (rs1B true 1) ∗ room (F := F) c (rs2 false)) ∗ owing c debts)
      ⊢ iprop((∀ v2 v5 v6 v7 v17 v19 v21 v24 v26 v28, (semVal (barC c) 0 ∗ (barPay (F := F) c false ∗ barPay (F := F) c true) ∗ owing c (debts.drop 2))
            -∗ Q ⟨c, v2, v5, v6, v7, v17, v19, v21, v24, v26, v28⟩)
          -∗ run c (k0_part1 (F := F) xM h0 oM h1 b0 h2 b1 h3 b2 h4 b3 h5 cc0_scratch4 cc0_scratch5) Q) := by
  rw [k0_part1_eq_skeleton]
  unfold k0_part1_skel barKit
  simp only [semSignalWord, semWaitWord, Prog.lift, Prog.bind_op, Prog.bind_ret, Prog.pure_eq_ret, wp_deviceId]
  iintro ⟨#Hb, ⟨⟨Ht1, Ht2⟩, Hcr, Hat⟩, Hr1, Hr2, Ho⟩ Hk
  iapply (step_signal m K c false (debts.drop 1) (dev_of ((k0_dev1_eq c).trans (by revert c; decide))) (by decide)) $$ [Ht1 Hr1 Ho]
  · isplitr; · iexact Hb
    isplitl [Ht1]; · iexact Ht1
    isplitl [Hr1]; · iexact Hr1
    iexact Ho
  iintro Ho
  iapply (step_signal m K c true (debts.drop 2) (dev_of ((k0_dev2_eq c).trans (by revert c; decide))) (by decide)) $$ [Ht2 Hr2 Ho]
  · isplitr; · iexact Hb
    isplitl [Ht2]; · iexact Ht2
    isplitl [Hr2]; · iexact Hr2
    iexact Ho
  iintro Ho
  iapply (step_barrier m K c (debts.drop 2) (by decide) (by decide)) $$ [Hcr Hat Ho]
  · isplitr; · iexact Hb
    isplitl [Hcr Hat]
    · isplitl [Hcr]; · iexact Hcr
      iexact Hat
    iexact Ho
  iintro H
  iapply (run_ret (F := F) c)
  iapply Hk
  iexact H

theorem part2 {w1 w2 w3 w4 w5 w6 w7 : BitVec 32} {Q : (Σ' (v29 : BitVec 32) (v31 : BitVec 32), BitVec 32) → sProp 𝕄} :
    iprop(base (F := F) m K ∗ xHeld m c ∗ (room (F := F) c (oB (kk false (opp c))) ∗ room (F := F) c (oB (kk false (nb false c))))
        ∗ sendKit (F := F) c (false, 0) ∗ room (F := F) (nb false c) (rs1B false 0) ∗ owing c (debts.drop 2))
      ⊢ iprop((∀ v29 v31 v34, (xHeld m c ∗ acc c false (nb false c) (xw m c) ∗ flying (F := F) c (false, 0) ∗ owing c (debts.drop 3)) -∗ Q ⟨v29, v31, v34⟩)
          -∗ run c (k0_part2 (F := F) xM h0 oM h1 b0 h2 b1 h3 b2 h4 b3 h5 cc0_scratch4 cc0_scratch5 c w1 w2 w3 w4 w5 w6 w7) Q) := by
  rw [k0_part2_eq_skeleton]
  unfold k0_part2_skel
  simp only [Prog.lift, Prog.bind_op, Prog.bind_ret, Prog.pure_eq_ret]
  iintro ⟨#Hb, Hx, ⟨H1, H2⟩, Hkit, Hr, Ho⟩ Hk
  iapply (fill m c false (opp c) (nb false c) ⟨1 - c.val % 2, by omega⟩ fullShare (by revert c; decide)
    ((k0_off1_eq c).trans (by revert c; decide)) ((k0_off2_eq c).trans (by revert c; decide)) (fun v => rfl)) $$ [Hx H1 H2]
  · isplitl [Hx]; · iexact Hx
    isplitl [H1]; · iexact H1
    iexact H2
  iintro ⟨Hx, H1, H2⟩
  iapply (step_send m K c (false, 0) (debts.drop 3) (dev_of ((k0_dev3_eq c).trans (by revert c; decide)))
    (slice_eq (srcK (false, 0) c) ((k0_off3_eq c).trans (by revert c; decide)) _) rfl (by rfl) (by rfl)) $$ [Hkit H1 Hr Ho]
  · isplitr; · iexact Hb
    isplitl [Hkit]; · iexact Hkit
    isplitl [H1]; · iexact H1
    isplitl [Hr]; · iexact Hr
    iexact Ho
  iintro ⟨Hf, Ho⟩
  iapply (run_ret (F := F) c)
  iapply Hk
  isplitl [Hx]; · iexact Hx
  isplitl [H2]; · iexact H2
  isplitl [Hf]; · iexact Hf
  iexact Ho

theorem part3 {w1 w2 w3 : BitVec 32} {Q : PUnit → sProp 𝕄} :
    iprop(base (F := F) m K ∗ xHeld m c ∗ acc c false (nb false c) (xw m c) ∗ sendKit (F := F) c (false, 1) ∗ room (F := F) (nb false c) (rs1B false 1) ∗ (room (F := F) c (oB (kk true (opp c))) ∗ room (F := F) c (oB (kk true (nb true c)))) ∗ sendKit (F := F) c (true, 0) ∗ room (F := F) (nb true c) (rs1B true 0) ∗ owing c (debts.drop 3))
      ⊢ iprop(((xHeld m c ∗ flying (F := F) c (false, 1) ∗ flying (F := F) c (true, 0) ∗ acc c true (nb true c) (xw m c) ∗ owing c (debts.drop 5)) -∗ Q ⟨⟩)
          -∗ run c (k0_part3 (F := F) xM h0 oM h1 b0 h2 b1 h3 b2 h4 b3 h5 cc0_scratch4 cc0_scratch5 c w1 w2 w3) Q) := by
  rw [k0_part3_eq_skeleton]
  unfold k0_part3_skel
  simp only [Prog.lift, Prog.bind_op, Prog.bind_ret, Prog.pure_eq_ret]
  iintro ⟨#Hb, Hx, HA, Hk1, Hr1, ⟨H1, H2⟩, Hk2, Hr2, Ho⟩ Hk
  iapply (step_send m K c (false, 1) (debts.drop 4) (dev_of ((k0_dev4_eq c).trans (by revert c; decide)))
    (slice_eq (srcK (false, 1) c) ((k0_off4_eq c).trans (by revert c; decide)) _) rfl (by rfl) (by rfl)) $$ [Hk1 HA Hr1 Ho]
  · isplitr; · iexact Hb
    isplitl [Hk1]; · iexact Hk1
    isplitl [HA]; · iexact HA
    isplitl [Hr1]; · iexact Hr1
    iexact Ho
  iintro ⟨Hf1, Ho⟩
  iapply (fill m c true (opp c) (nb true c) ⟨3 - c.val / 2, by have := c.isLt; simp only [nD] at this; omega⟩ fullShare (by revert c; decide)
    ((k0_off5_eq c).trans (by revert c; decide)) ((k0_off6_eq c).trans (by revert c; decide)) (fun v => rfl)) $$ [Hx H1 H2]
  · isplitl [Hx]; · iexact Hx
    isplitl [H1]; · iexact H1
    iexact H2
  iintro ⟨Hx, H1, H2⟩
  iapply (step_send m K c (true, 0) (debts.drop 5) (dev_of ((k0_dev5_eq c).trans (by revert c; decide)))
    (slice_eq (srcK (true, 0) c) ((k0_off7_eq c).trans (by revert c; decide)) _) rfl (by rfl) (by rfl)) $$ [Hk2 H1 Hr2 Ho]
  · isplitr; · iexact Hb
    isplitl [Hk2]; · iexact Hk2
    isplitl [H1]; · iexact H1
    isplitl [Hr2]; · iexact Hr2
    iexact Ho
  iintro ⟨Hf2, Ho⟩
  iapply (run_ret (F := F) c)
  iapply Hk
  isplitl [Hx]; · iexact Hx
  isplitl [Hf1]; · iexact Hf1
  isplitl [Hf2]; · iexact Hf2
  isplitl [H2]; · iexact H2
  iexact Ho

theorem part4 {w1 w2 w3 w4 w5 w6 w7 : BitVec 32} {Q : PUnit → sProp 𝕄} :
    iprop(base (F := F) m K ∗ xHeld m c ∗ acc c true (nb true c) (xw m c) ∗ sendKit (F := F) c (true, 1) ∗ room (F := F) (nb true c) (rs1B true 1) ∗ (room (F := F) c (oB (kk false c)) ∗ room (F := F) c (oB (kk false (snd false c)))) ∗ (room (F := F) c (oB (kk true c)) ∗ room (F := F) c (oB (kk true (snd true c)))) ∗ recvKit (F := F) c (false, 0) ∗ owing c (debts.drop 5))
      ⊢ iprop(((xHeld m c ∗ flying (F := F) c (true, 1) ∗ acc c false c (xw m c) ∗ acc c true c (xw m c) ∗ acc c false (snd false c) (s1 m false c) ∗ acc c true (snd true c) (xw m c) ∗ room (F := F) c (rs1B false 0) ∗ semVal (rcvC (false, 0) c) 0 ∗ room (F := F) (nb false c) (oB (kk false (snd false c))) ∗ owing c (debts.drop 6)) -∗ Q ⟨⟩)
          -∗ run c (k0_part4 (F := F) xM h0 oM h1 b0 h2 b1 h3 b2 h4 b3 h5 cc0_scratch4 cc0_scratch5 c w1 w2 w3 w4 w5 w6 w7) Q) := by
  rw [k0_part4_eq_skeleton]
  unfold k0_part4_skel
  simp only [Prog.lift, Prog.bind_op, Prog.bind_ret, Prog.pure_eq_ret]
  iintro ⟨#Hb, Hx, HA, Hk1, Hr1, ⟨H1, H2⟩, ⟨H3, H4⟩, Hk2, Ho⟩ Hk
  iapply (step_send m K c (true, 1) (debts.drop 6) (dev_of ((k0_dev6_eq c).trans (by revert c; decide)))
    (slice_eq (srcK (true, 1) c) ((k0_off8_eq c).trans (by revert c; decide)) _) rfl (by rfl) (by rfl)) $$ [Hk1 HA Hr1 Ho]
  · isplitr; · iexact Hb
    isplitl [Hk1]; · iexact Hk1
    isplitl [HA]; · iexact HA
    isplitl [Hr1]; · iexact Hr1
    iexact Ho
  iintro ⟨Hf1, Ho⟩
  iapply (fill m c false c (snd false c) ⟨c.val % 2, by have := c.isLt; simp only [nD] at this; omega⟩ fullShare (by revert c; decide)
    ((k0_off9_eq c).trans (by revert c; decide)) ((k0_off10_eq c).trans (by revert c; decide)) (fun v => rfl)) $$ [Hx H1 H2]
  · isplitl [Hx]; · iexact Hx
    isplitl [H1]; · iexact H1
    iexact H2
  iintro ⟨Hx, H1, H2⟩
  iapply (fill m c true c (snd true c) ⟨c.val / 2 + 2, by have := c.isLt; simp only [nD] at this; omega⟩ fullShare (by revert c; decide)
    ((k0_off11_eq c).trans (by revert c; decide)) ((k0_off12_eq c).trans (by revert c; decide)) (fun v => rfl)) $$ [Hx H3 H4]
  · isplitl [Hx]; · iexact Hx
    isplitl [H3]; · iexact H3
    iexact H4
  iintro ⟨Hx, H3, H4⟩
  iapply (step_recv m K c (false, 0) (debts.drop 6) (by decide) (by rfl) (by rfl)) $$ [Hk2 Ho]
  · isplitr; · iexact Hb
    isplitl [Hk2]; · iexact Hk2
    iexact Ho
  rw [rcv0 m c false]
  iintro ⟨Hz, ⟨HB, HR⟩, Ho⟩
  iapply (step_add c (kk false (snd false c)) (blk _ (xw m c)) (blk _ (xw m (nb false c))) _ ((k0_off13_eq c).trans (by revert c; decide))
    (rs1_slice c false 0 _ rfl _) (fun v w => by unfold k0_pay5; exact congrArg (addf · w) (shapeCast_self _ _))) $$ [H2 HB]
  · isplitl [H2]; · iexact H2
    iexact HB
  iintro ⟨H2, HB⟩
  ihave HB := (has_room c _ _) $$ HB
  iapply (run_ret (F := F) c)
  iapply Hk
  isplitl [Hx]; · iexact Hx
  isplitl [Hf1]; · iexact Hf1
  isplitl [H1]; · iexact H1
  isplitl [H3]; · iexact H3
  isplitl [H2]; · iexact H2
  isplitl [H4]; · iexact H4
  isplitl [HB]; · iexact HB
  isplitl [Hz]; · iexact Hz
  isplitl [HR]; · iexact HR
  iexact Ho

theorem part5 {w1 w2 w3 w4 w5 : BitVec 32} {Q : PUnit → sProp 𝕄} :
    iprop(base (F := F) m K ∗ acc c false (snd false c) (s1 m false c) ∗ sendKit (F := F) c (false, 2) ∗ room (F := F) (snd false c) (rs2 false) ∗ recvKit (F := F) c (true, 0) ∗ acc c true (snd true c) (xw m c) ∗ sendKit (F := F) c (true, 2) ∗ room (F := F) (snd true c) (rs2 true) ∗ owing c (debts.drop 6))
      ⊢ iprop(((flying (F := F) c (false, 2) ∗ flying (F := F) c (true, 2) ∗ room (F := F) c (rs1B true 0) ∗ semVal (rcvC (true, 0) c) 0 ∗ room (F := F) (nb true c) (oB (kk true (snd true c))) ∗ owing c (debts.drop 8)) -∗ Q ⟨⟩)
          -∗ run c (k0_part5 (F := F) xM h0 oM h1 b0 h2 b1 h3 b2 h4 b3 h5 cc0_scratch4 cc0_scratch5 c w1 w2 w3 w4 w5) Q) := by
  rw [k0_part5_eq_skeleton]
  unfold k0_part5_skel
  simp only [Prog.lift, Prog.bind_op, Prog.bind_ret, Prog.pure_eq_ret]
  iintro ⟨#Hb, HA, Hk1, Hr1, Hk2, HC, Hk3, Hr2, Ho⟩ Hk
  iapply (step_send m K c (false, 2) (debts.drop 7) (dev_of ((k0_dev7_eq c).trans (by revert c; decide)))
    (slice_eq (srcK (false, 2) c) ((k0_off14_eq c).trans (by revert c; decide)) _) rfl (by rfl) (by rfl)) $$ [Hk1 HA Hr1 Ho]
  · isplitr; · iexact Hb
    isplitl [Hk1]; · iexact Hk1
    isplitl [HA]; · iexact HA
    isplitl [Hr1]; · iexact Hr1
    iexact Ho
  iintro ⟨Hf1, Ho⟩
  iapply (step_recv m K c (true, 0) (debts.drop 7) (by decide) (by rfl) (by rfl)) $$ [Hk2 Ho]
  · isplitr; · iexact Hb
    isplitl [Hk2]; · iexact Hk2
    iexact Ho
  rw [rcv0 m c true]
  iintro ⟨Hz, ⟨HB, HR⟩, Ho⟩
  iapply (step_add c (kk true (snd true c)) (blk _ (xw m c)) (blk _ (xw m (nb true c))) _ ((k0_off15_eq c).trans (by revert c; decide))
    (rs1_slice c true 0 _ rfl _) (fun v w => by unfold k0_pay6; exact congrArg (addf · w) (shapeCast_self _ _))) $$ [HC HB]
  · isplitl [HC]; · iexact HC
    iexact HB
  iintro ⟨HC, HB⟩
  iapply (step_send m K c (true, 2) (debts.drop 8) (dev_of ((k0_dev8_eq c).trans (by revert c; decide)))
    (slice_eq (srcK (true, 2) c) ((k0_off16_eq c).trans (by revert c; decide)) _) rfl (by rfl) (by rfl)) $$ [Hk3 HC Hr2 Ho]
  · isplitr; · iexact Hb
    isplitl [Hk3]; · iexact Hk3
    isplitl [HC]; · iexact HC
    isplitl [Hr2]; · iexact Hr2
    iexact Ho
  iintro ⟨Hf2, Ho⟩
  ihave HB := (has_room c _ _) $$ HB
  iapply (run_ret (F := F) c)
  iapply Hk
  isplitl [Hf1]; · iexact Hf1
  isplitl [Hf2]; · iexact Hf2
  isplitl [HB]; · iexact HB
  isplitl [Hz]; · iexact Hz
  isplitl [HR]; · iexact HR
  iexact Ho

theorem part6 {w1 w2 w3 w4 : BitVec 32} {Q : PUnit → sProp 𝕄} :
    iprop(base (F := F) m K ∗ acc c false c (xw m c) ∗ acc c true c (xw m c) ∗ recvKit (F := F) c (false, 1) ∗ recvKit (F := F) c (true, 1) ∗ owing c (debts.drop 8))
      ⊢ iprop(((acc c false c (s1 m false c) ∗ acc c true c (s1 m true c) ∗ room (F := F) c (rs1B false 1) ∗ room (F := F) c (rs1B true 1) ∗ semVal (rcvC (false, 1) c) 0 ∗ semVal (rcvC (true, 1) c) 0 ∗ room (F := F) (nb false c) (oB (kk false c)) ∗ room (F := F) (nb true c) (oB (kk true c)) ∗ owing c (debts.drop 8)) -∗ Q ⟨⟩)
          -∗ run c (k0_part6 (F := F) xM h0 oM h1 b0 h2 b1 h3 b2 h4 b3 h5 cc0_scratch4 cc0_scratch5 c w1 w2 w3 w4) Q) := by
  rw [k0_part6_eq_skeleton]
  unfold k0_part6_skel
  simp only [Prog.lift, Prog.bind_op, Prog.bind_ret, Prog.pure_eq_ret]
  iintro ⟨#Hb, HA, HC, Hk1, Hk2, Ho⟩ Hk
  iapply (step_recv m K c (false, 1) (debts.drop 8) (by decide) (by rfl) (by rfl)) $$ [Hk1 Ho]
  · isplitr; · iexact Hb
    isplitl [Hk1]; · iexact Hk1
    iexact Ho
  rw [rcv1 m c false]
  iintro ⟨Hz, ⟨HB, HR⟩, Ho⟩
  iapply (step_add c (kk false c) (blk _ (xw m c)) (blk _ (xw m (nb false c))) _ ((k0_off17_eq c).trans (by revert c; decide))
    (rs1_slice c false 1 _ rfl _) (fun v w => by unfold k0_pay7; exact congrArg (addf · w) (shapeCast_self _ _))) $$ [HA HB]
  · isplitl [HA]; · iexact HA
    iexact HB
  iintro ⟨HA, HB⟩
  iapply (step_recv m K c (true, 1) (debts.drop 8) (by decide) (by rfl) (by rfl)) $$ [Hk2 Ho]
  · isplitr; · iexact Hb
    isplitl [Hk2]; · iexact Hk2
    iexact Ho
  rw [rcv1 m c true]
  iintro ⟨Hy, ⟨HD, HS⟩, Ho⟩
  iapply (step_add c (kk true c) (blk _ (xw m c)) (blk _ (xw m (nb true c))) _ ((k0_off18_eq c).trans (by revert c; decide))
    (rs1_slice c true 1 _ rfl _) (fun v w => by unfold k0_pay8; exact congrArg (addf · w) (shapeCast_self _ _))) $$ [HC HD]
  · isplitl [HC]; · iexact HC
    iexact HD
  iintro ⟨HC, HD⟩
  ihave HB := (has_room c _ _) $$ HB
  ihave HD := (has_room c _ _) $$ HD
  iapply (run_ret (F := F) c)
  iapply Hk
  isplitl [HA]; · iexact HA
  isplitl [HC]; · iexact HC
  isplitl [HB]; · iexact HB
  isplitl [HD]; · iexact HD
  isplitl [Hz]; · iexact Hz
  isplitl [Hy]; · iexact Hy
  isplitl [HR]; · iexact HR
  isplitl [HS]; · iexact HS
  iexact Ho

end Parts

end Cert.KernelIdeal.AllReduce

end
-- ==== Proof.KernelIdeal.BodyB.lean ====
/-
# The body, second half

The second exchange of both halves, the results sent on, and the waits for everything sent, at a device `c`.
-/
module

public import proofs.«01_k».proof.Proof.KernelIdeal.BodyA

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The sum over all devices, as the two halves of a share that the two sends read with. -/
theorem reduced (h : Bool) : (has c (oB (kk h c)) fullShare (addf (blk (kk h c) (s1 m h c)) (blk (kk h c) (s1 m h (snd h c)))) : sProp 𝕄)
    ⊢ iprop(has c (oB (kk h c)) fullShare.left (blk (kk h c) (fin m)) ∗ has c (oB (kk h c)) fullShare.right (blk (kk h c) (fin m))) := by
  rw [← blk_tot]
  exact (owns_halves (c : Thread nD τ) (oB (kk h c)) fullShare _).1

section Parts

variable {h0 : xM.IsWhole} {h1 : oM.IsWhole} {h2 : b0.IsWhole} {h3 : b1.IsWhole} {h4 : b2.IsWhole} {h5 : b3.IsWhole}

theorem part7 {w1 w2 w3 w4 w5 : BitVec 32} {Q : PUnit → sProp 𝕄} :
    iprop(base (F := F) m K ∗ acc c false c (s1 m false c) ∗ recvKit (F := F) c (false, 2) ∗ sendKit (F := F) c (false, 3) ∗ sendKit (F := F) c (false, 4) ∗ room (F := F) (nb false c) (oB (kk false c)) ∗ owing c (debts.drop 8))
      ⊢ iprop(((flying (F := F) c (false, 3) ∗ flying (F := F) c (false, 4) ∗ room (F := F) c (rs2 false) ∗ semVal (rcvC (false, 2) c) 0 ∗ owing c (debts.drop 10)) -∗ Q ⟨⟩)
          -∗ run c (k0_part7 (F := F) xM h0 oM h1 b0 h2 b1 h3 b2 h4 b3 h5 cc0_scratch4 cc0_scratch5 c w1 w2 w3 w4 w5) Q) := by
  rw [k0_part7_eq_skeleton]
  unfold k0_part7_skel
  simp only [Prog.lift, Prog.bind_op, Prog.bind_ret, Prog.pure_eq_ret]
  iintro ⟨#Hb, HA, Hk1, Hk2, Hk3, Hr, Ho⟩ Hk
  iapply (step_recv m K c (false, 2) (debts.drop 8) (by decide) (by rfl) (by rfl)) $$ [Hk1 Ho]
  · isplitr; · iexact Hb
    isplitl [Hk1]; · iexact Hk1
    iexact Ho
  rw [rcv2 m c false]
  iintro ⟨Hz, ⟨HB, HR⟩, Ho⟩
  iapply (step_add c (kk false c) (blk _ (s1 m false c)) (blk _ (s1 m false (snd false c))) _ ((k0_off17_eq c).trans (by revert c; decide))
    (rs2_slice c false _ _) (fun v w => by unfold k0_pay9; exact congrArg (addf · w) (shapeCast_self _ _))) $$ [HA HB]
  · isplitl [HA]; · iexact HA
    iexact HB
  iintro ⟨HA, HB⟩
  ihave HA := (reduced m c false) $$ HA
  icases HA with ⟨HL, HG⟩
  iapply (step_send m K c (false, 3) (debts.drop 9) (dev_of ((k0_dev9_eq c).trans (by revert c; decide)))
    (slice_eq (srcK (false, 3) c) ((k0_off19_eq c).trans (by revert c; decide)) _) (slice_eq (srcK (false, 3) c) ((k0_off19_eq c).trans (by revert c; decide)) _) (by rfl) (by rfl)) $$ [Hk2 HL HR Ho]
  · isplitr; · iexact Hb
    isplitl [Hk2]; · iexact Hk2
    isplitl [HL]; · iexact HL
    isplitl [HR]; · iexact HR
    iexact Ho
  iintro ⟨Hf1, Ho⟩
  iapply (step_send m K c (false, 4) (debts.drop 10) (dev_of ((k0_dev10_eq c).trans (by revert c; decide)))
    (slice_eq (srcK (false, 4) c) ((k0_off19_eq c).trans (by revert c; decide)) _) (slice_eq (srcK (false, 4) c) ((k0_off19_eq c).trans (by revert c; decide)) _) (by rfl) (by rfl)) $$ [Hk3 HG Hr Ho]
  · isplitr; · iexact Hb
    isplitl [Hk3]; · iexact Hk3
    isplitl [HG]; · iexact HG
    isplitl [Hr]; · iexact Hr
    iexact Ho
  iintro ⟨Hf2, Ho⟩
  ihave HB := (has_room c _ _) $$ HB
  iapply (run_ret (F := F) c)
  iapply Hk
  isplitl [Hf1]; · iexact Hf1
  isplitl [Hf2]; · iexact Hf2
  isplitl [HB]; · iexact HB
  isplitl [Hz]; · iexact Hz
  iexact Ho

theorem part8 {w1 w2 w3 w4 w5 : BitVec 32} {Q : (Σ' (v252 : BitVec 32), BitVec 32) → sProp 𝕄} :
    iprop(base (F := F) m K ∗ acc c true c (s1 m true c) ∗ recvKit (F := F) c (true, 2) ∗ sendKit (F := F) c (true, 3) ∗ sendKit (F := F) c (true, 4) ∗ room (F := F) (nb true c) (oB (kk true c)) ∗ owing c (debts.drop 10))
      ⊢ iprop((∀ v252 c1_i32_180, (flying (F := F) c (true, 3) ∗ flying (F := F) c (true, 4) ∗ room (F := F) c (rs2 true) ∗ semVal (rcvC (true, 2) c) 0 ∗ owing c (debts.drop 12)) -∗ Q ⟨v252, c1_i32_180⟩)
          -∗ run c (k0_part8 (F := F) xM h0 oM h1 b0 h2 b1 h3 b2 h4 b3 h5 cc0_scratch4 cc0_scratch5 c w1 w2 w3 w4 w5) Q) := by
  rw [k0_part8_eq_skeleton]
  unfold k0_part8_skel
  simp only [Prog.lift, Prog.bind_op, Prog.bind_ret, Prog.pure_eq_ret]
  iintro ⟨#Hb, HA, Hk1, Hk2, Hk3, Hr, Ho⟩ Hk
  iapply (step_recv m K c (true, 2) (debts.drop 10) (by decide) (by rfl) (by rfl)) $$ [Hk1 Ho]
  · isplitr; · iexact Hb
    isplitl [Hk1]; · iexact Hk1
    iexact Ho
  rw [rcv2 m c true]
  iintro ⟨Hz, ⟨HB, HR⟩, Ho⟩
  iapply (step_add c (kk true c) (blk _ (s1 m true c)) (blk _ (s1 m true (snd true c))) _ ((k0_off18_eq c).trans (by revert c; decide))
    (rs2_slice c true _ _) (fun v w => by unfold k0_pay10; exact congrArg (addf · w) (shapeCast_self _ _))) $$ [HA HB]
  · isplitl [HA]; · iexact HA
    iexact HB
  iintro ⟨HA, HB⟩
  ihave HA := (reduced m c true) $$ HA
  icases HA with ⟨HL, HG⟩
  iapply (step_send m K c (true, 3) (debts.drop 11) (dev_of ((k0_dev11_eq c).trans (by revert c; decide)))
    (slice_eq (srcK (true, 3) c) ((k0_off20_eq c).trans (by revert c; decide)) _) (slice_eq (srcK (true, 3) c) ((k0_off20_eq c).trans (by revert c; decide)) _) (by rfl) (by rfl)) $$ [Hk2 HL HR Ho]
  · isplitr; · iexact Hb
    isplitl [Hk2]; · iexact Hk2
    isplitl [HL]; · iexact HL
    isplitl [HR]; · iexact HR
    iexact Ho
  iintro ⟨Hf1, Ho⟩
  iapply (step_send m K c (true, 4) (debts.drop 12) (dev_of ((k0_dev12_eq c).trans (by revert c; decide)))
    (slice_eq (srcK (true, 4) c) ((k0_off20_eq c).trans (by revert c; decide)) _) (slice_eq (srcK (true, 4) c) ((k0_off20_eq c).trans (by revert c; decide)) _) (by rfl) (by rfl)) $$ [Hk3 HG Hr Ho]
  · isplitr; · iexact Hb
    isplitl [Hk3]; · iexact Hk3
    isplitl [HG]; · iexact HG
    isplitl [Hr]; · iexact Hr
    iexact Ho
  iintro ⟨Hf2, Ho⟩
  ihave HB := (has_room c _ _) $$ HB
  iapply (run_ret (F := F) c)
  iapply Hk
  isplitl [Hf1]; · iexact Hf1
  isplitl [Hf2]; · iexact Hf2
  isplitl [HB]; · iexact HB
  isplitl [Hz]; · iexact Hz
  iexact Ho

theorem part9 {w1 w2 w3 w4 w5 w6 : BitVec 32} {Q : PUnit → sProp 𝕄} :
    iprop(base (F := F) m K ∗ recvKit (F := F) c (false, 3) ∗ sendKit (F := F) c (false, 5) ∗ room (F := F) (nb false c) (oB (kk false (snd false c))) ∗ recvKit (F := F) c (true, 3) ∗ owing c (debts.drop 12))
      ⊢ iprop(((flying (F := F) c (false, 5) ∗ acc c true (snd true c) (fin m) ∗ semVal (rcvC (false, 3) c) 0 ∗ semVal (rcvC (true, 3) c) 0 ∗ owing c (debts.drop 13)) -∗ Q ⟨⟩)
          -∗ run c (k0_part9 (F := F) xM h0 oM h1 b0 h2 b1 h3 b2 h4 b3 h5 cc0_scratch4 cc0_scratch5 c w1 w2 w3 w4 w5 w6) Q) := by
  rw [k0_part9_eq_skeleton]
  unfold k0_part9_skel
  simp only [Prog.lift, Prog.bind_op, Prog.bind_ret, Prog.pure_eq_ret]
  iintro ⟨#Hb, Hk1, Hk2, Hr, Hk3, Ho⟩ Hk
  iapply (step_recv m K c (false, 3) (debts.drop 12) (by decide) (by rfl) (by rfl)) $$ [Hk1 Ho]
  · isplitr; · iexact Hb
    isplitl [Hk1]; · iexact Hk1
    iexact Ho
  iintro ⟨Hz, HA, Ho⟩
  ihave HA := (rcv3 m c false) $$ HA
  iapply (step_send m K c (false, 5) (debts.drop 13) (dev_of ((k0_dev13_eq c).trans (by revert c; decide)))
    (slice_eq (srcK (false, 5) c) ((k0_off14_eq c).trans (by revert c; decide)) _) (slice_eq (srcK (false, 5) c) ((k0_off14_eq c).trans (by revert c; decide)) _) (by rfl) (by rfl)) $$ [Hk2 HA Hr Ho]
  · isplitr; · iexact Hb
    isplitl [Hk2]; · iexact Hk2
    isplitl [HA]; · iexact HA
    isplitl [Hr]; · iexact Hr
    iexact Ho
  iintro ⟨Hf, Ho⟩
  iapply (step_recv m K c (true, 3) (debts.drop 13) (by decide) (by rfl) (by rfl)) $$ [Hk3 Ho]
  · isplitr; · iexact Hb
    isplitl [Hk3]; · iexact Hk3
    iexact Ho
  iintro ⟨Hy, HB, Ho⟩
  ihave HB := (rcv3 m c true) $$ HB
  iapply (run_ret (F := F) c)
  iapply Hk
  isplitl [Hf]; · iexact Hf
  isplitl [HB]; · iexact HB
  isplitl [Hz]; · iexact Hz
  isplitl [Hy]; · iexact Hy
  iexact Ho

theorem part10 {w1 w2 w3 w4 : BitVec 32} {Q : PUnit → sProp 𝕄} :
    iprop(base (F := F) m K ∗ acc c true (snd true c) (fin m) ∗ sendKit (F := F) c (true, 5) ∗ room (F := F) (nb true c) (oB (kk true (snd true c))) ∗ recvKit (F := F) c (false, 4) ∗ recvKit (F := F) c (false, 5) ∗ recvKit (F := F) c (true, 4) ∗ owing c (debts.drop 13))
      ⊢ iprop(((flying (F := F) c (true, 5) ∗ acc c false (nb false c) (fin m) ∗ acc c false (opp c) (fin m) ∗ acc c true (nb true c) (fin m) ∗ semVal (rcvC (false, 4) c) 0 ∗ semVal (rcvC (false, 5) c) 0 ∗ semVal (rcvC (true, 4) c) 0 ∗ owing c (debts.drop 14)) -∗ Q ⟨⟩)
          -∗ run c (k0_part10 (F := F) xM h0 oM h1 b0 h2 b1 h3 b2 h4 b3 h5 cc0_scratch4 cc0_scratch5 c w1 w2 w3 w4) Q) := by
  rw [k0_part10_eq_skeleton]
  unfold k0_part10_skel
  simp only [Prog.lift, Prog.bind_op, Prog.bind_ret, Prog.pure_eq_ret]
  iintro ⟨#Hb, HA, Hk1, Hr, Hk2, Hk3, Hk4, Ho⟩ Hk
  iapply (step_send m K c (true, 5) (debts.drop 14) (dev_of ((k0_dev14_eq c).trans (by revert c; decide)))
    (slice_eq (srcK (true, 5) c) ((k0_off16_eq c).trans (by revert c; decide)) _) (slice_eq (srcK (true, 5) c) ((k0_off16_eq c).trans (by revert c; decide)) _) (by rfl) (by rfl)) $$ [Hk1 HA Hr Ho]
  · isplitr; · iexact Hb
    isplitl [Hk1]; · iexact Hk1
    isplitl [HA]; · iexact HA
    isplitl [Hr]; · iexact Hr
    iexact Ho
  iintro ⟨Hf, Ho⟩
  iapply (step_recv m K c (false, 4) (debts.drop 14) (by decide) (by rfl) (by rfl)) $$ [Hk2 Ho]
  · isplitr; · iexact Hb
    isplitl [Hk2]; · iexact Hk2
    iexact Ho
  iintro ⟨Hz, HB, Ho⟩
  ihave HB := (rcv4 m c false) $$ HB
  iapply (step_recv m K c (false, 5) (debts.drop 14) (by decide) (by rfl) (by rfl)) $$ [Hk3 Ho]
  · isplitr; · iexact Hb
    isplitl [Hk3]; · iexact Hk3
    iexact Ho
  iintro ⟨Hy, HC, Ho⟩
  ihave HC := (rcv5 m c false) $$ HC
  iapply (step_recv m K c (true, 4) (debts.drop 14) (by decide) (by rfl) (by rfl)) $$ [Hk4 Ho]
  · isplitr; · iexact Hb
    isplitl [Hk4]; · iexact Hk4
    iexact Ho
  iintro ⟨Hw, HD, Ho⟩
  ihave HD := (rcv4 m c true) $$ HD
  iapply (run_ret (F := F) c)
  iapply Hk
  isplitl [Hf]; · iexact Hf
  isplitl [HB]; · iexact HB
  isplitl [HC]; · iexact HC
  isplitl [HD]; · iexact HD
  isplitl [Hz]; · iexact Hz
  isplitl [Hy]; · iexact Hy
  isplitl [Hw]; · iexact Hw
  iexact Ho

theorem part11 {Q : PUnit → sProp 𝕄} :
    iprop(base (F := F) m K ∗ recvKit (F := F) c (true, 5) ∗ flying (F := F) c (false, 0) ∗ flying (F := F) c (false, 1) ∗ flying (F := F) c (false, 2) ∗ flying (F := F) c (false, 3) ∗ flying (F := F) c (false, 4) ∗ owing c (debts.drop 14))
      ⊢ iprop(((acc c true (opp c) (fin m) ∗ acc c false c (fin m) ∗ semVal (rcvC (true, 5) c) 0 ∗ semVal (sndC (false, 0) c) 0 ∗ semVal (sndC (false, 1) c) 0 ∗ semVal (sndC (false, 2) c) 0 ∗ semVal (sndC (false, 3) c) 0 ∗ semVal (sndC (false, 4) c) 0 ∗ owing c (debts.drop 14)) -∗ Q ⟨⟩)
          -∗ run c (k0_part11 (F := F) xM h0 oM h1 b0 h2 b1 h3 b2 h4 b3 h5 cc0_scratch4 cc0_scratch5 c) Q) := by
  rw [k0_part11_eq_skeleton]
  unfold k0_part11_skel
  simp only [Prog.lift, Prog.bind_op, Prog.bind_ret, Prog.pure_eq_ret]
  iintro ⟨#Hb, Hk1, H0, H1, H2, H3, H4, Ho⟩ Hk
  iapply (step_recv m K c (true, 5) (debts.drop 14) (by decide) (by rfl) (by rfl)) $$ [Hk1 Ho]
  · isplitr; · iexact Hb
    isplitl [Hk1]; · iexact Hk1
    iexact Ho
  iintro ⟨Hz, HA, Ho⟩
  ihave HA := (rcv5 m c true) $$ HA
  iapply (step_sent m K c (false, 0) (debts.drop 14) (by rfl) (by rfl)) $$ [H0 Ho]
  · isplitr; · iexact Hb
    isplitl [H0]; · iexact H0
    iexact Ho
  iintro ⟨Hz0, -, Ho⟩
  iapply (step_sent m K c (false, 1) (debts.drop 14) (by rfl) (by rfl)) $$ [H1 Ho]
  · isplitr; · iexact Hb
    isplitl [H1]; · iexact H1
    iexact Ho
  iintro ⟨Hz1, -, Ho⟩
  iapply (step_sent m K c (false, 2) (debts.drop 14) (by rfl) (by rfl)) $$ [H2 Ho]
  · isplitr; · iexact Hb
    isplitl [H2]; · iexact H2
    iexact Ho
  iintro ⟨Hz2, -, Ho⟩
  iapply (step_sent m K c (false, 3) (debts.drop 14) (by rfl) (by rfl)) $$ [H3 Ho]
  · isplitr; · iexact Hb
    isplitl [H3]; · iexact H3
    iexact Ho
  iintro ⟨Hz3, Hp3, Ho⟩
  iapply (step_sent m K c (false, 4) (debts.drop 14) (by rfl) (by rfl)) $$ [H4 Ho]
  · isplitr; · iexact Hb
    isplitl [H4]; · iexact H4
    iexact Ho
  iintro ⟨Hz4, Hp4, Ho⟩
  ihave HB := (snd34 m c false).1 $$ [Hp3 Hp4]
  · isplitl [Hp3]; · iexact Hp3
    iexact Hp4
  iapply (run_ret (F := F) c)
  iapply Hk
  isplitl [HA]; · iexact HA
  isplitl [HB]; · iexact HB
  isplitl [Hz]; · iexact Hz
  isplitl [Hz0]; · iexact Hz0
  isplitl [Hz1]; · iexact Hz1
  isplitl [Hz2]; · iexact Hz2
  isplitl [Hz3]; · iexact Hz3
  isplitl [Hz4]; · iexact Hz4
  iexact Ho

theorem part12 {Q : PUnit → sProp 𝕄} :
    iprop(base (F := F) m K ∗ flying (F := F) c (false, 5) ∗ flying (F := F) c (true, 0) ∗ flying (F := F) c (true, 1) ∗ flying (F := F) c (true, 2) ∗ flying (F := F) c (true, 3) ∗ flying (F := F) c (true, 4) ∗ owing c (debts.drop 14))
      ⊢ iprop(((acc c false (snd false c) (fin m) ∗ acc c true c (fin m) ∗ semVal (sndC (false, 5) c) 0 ∗ semVal (sndC (true, 0) c) 0 ∗ semVal (sndC (true, 1) c) 0 ∗ semVal (sndC (true, 2) c) 0 ∗ semVal (sndC (true, 3) c) 0 ∗ semVal (sndC (true, 4) c) 0 ∗ owing c (debts.drop 14)) -∗ Q ⟨⟩)
          -∗ run c (k0_part12 (F := F) xM h0 oM h1 b0 h2 b1 h3 b2 h4 b3 h5 cc0_scratch4 cc0_scratch5 c) Q) := by
  rw [k0_part12_eq_skeleton]
  unfold k0_part12_skel
  simp only [Prog.lift, Prog.bind_op, Prog.bind_ret, Prog.pure_eq_ret]
  iintro ⟨#Hb, Hf, H0, H1, H2, H3, H4, Ho⟩ Hk
  iapply (step_sent m K c (false, 5) (debts.drop 14) (by rfl) (by rfl)) $$ [Hf Ho]
  · isplitr; · iexact Hb
    isplitl [Hf]; · iexact Hf
    iexact Ho
  iintro ⟨Hz, HA, Ho⟩
  ihave HA := (Entails.of_eq (snd5 m c false)) $$ HA
  iapply (step_sent m K c (true, 0) (debts.drop 14) (by rfl) (by rfl)) $$ [H0 Ho]
  · isplitr; · iexact Hb
    isplitl [H0]; · iexact H0
    iexact Ho
  iintro ⟨Hz0, -, Ho⟩
  iapply (step_sent m K c (true, 1) (debts.drop 14) (by rfl) (by rfl)) $$ [H1 Ho]
  · isplitr; · iexact Hb
    isplitl [H1]; · iexact H1
    iexact Ho
  iintro ⟨Hz1, -, Ho⟩
  iapply (step_sent m K c (true, 2) (debts.drop 14) (by rfl) (by rfl)) $$ [H2 Ho]
  · isplitr; · iexact Hb
    isplitl [H2]; · iexact H2
    iexact Ho
  iintro ⟨Hz2, -, Ho⟩
  iapply (step_sent m K c (true, 3) (debts.drop 14) (by rfl) (by rfl)) $$ [H3 Ho]
  · isplitr; · iexact Hb
    isplitl [H3]; · iexact H3
    iexact Ho
  iintro ⟨Hz3, Hp3, Ho⟩
  iapply (step_sent m K c (true, 4) (debts.drop 14) (by rfl) (by rfl)) $$ [H4 Ho]
  · isplitr; · iexact Hb
    isplitl [H4]; · iexact H4
    iexact Ho
  iintro ⟨Hz4, Hp4, Ho⟩
  ihave HB := (snd34 m c true).1 $$ [Hp3 Hp4]
  · isplitl [Hp3]; · iexact Hp3
    iexact Hp4
  iapply (run_ret (F := F) c)
  iapply Hk
  isplitl [HA]; · iexact HA
  isplitl [HB]; · iexact HB
  isplitl [Hz]; · iexact Hz
  isplitl [Hz0]; · iexact Hz0
  isplitl [Hz1]; · iexact Hz1
  isplitl [Hz2]; · iexact Hz2
  isplitl [Hz3]; · iexact Hz3
  isplitl [Hz4]; · iexact Hz4
  iexact Ho

end Parts

end Cert.KernelIdeal.AllReduce

end
-- ==== Proof.KernelIdeal.Body.lean ====
/-
# The body, whole

The twelve parts one after the other and the last wait, at a device `c`: the accumulator comes in with any contents and
goes out holding the result, the scratch arrays come in and go out with any contents, every semaphore ends at zero and
nothing is owed.
-/
module

public import proofs.«01_k».proof.Proof.KernelIdeal.BodyB

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The twelve transfers one by one. -/
theorem xf_chain {M : Type} [URA M] (Φ : Xf → sProp M) : bigSep Finset.univ Φ
    = iprop(Φ (false, 0) ∗ Φ (false, 1) ∗ Φ (false, 2) ∗ Φ (false, 3) ∗ Φ (false, 4) ∗ Φ (false, 5)
        ∗ Φ (true, 0) ∗ Φ (true, 1) ∗ Φ (true, 2) ∗ Φ (true, 3) ∗ Φ (true, 4) ∗ Φ (true, 5)) :=
  bigSep_univ_eq_bigSepL [(false, 0), (false, 1), (false, 2), (false, 3), (false, 4), (false, 5),
    (true, 0), (true, 1), (true, 2), (true, 3), (true, 4), (true, 5)] (by decide) (by decide) Φ

/-- The four scratch arrays, contents unknown. -/
def scratch : sProp 𝕄 :=
  iprop((∃ X, owns (c : Thread nD τ) b0 fullShare X) ∗ (∃ X, owns (c : Thread nD τ) b1 fullShare X) ∗ room (F := F) c b2 ∗ room (F := F) c b3)

/-- The landing places of the first exchange of a half. -/
theorem first_places (M : Memref sig .tc .vmem S256x1024 .bf16) :
    (iprop(∃ X, owns (c : Thread nD τ) M fullShare X) : sProp 𝕄)
      ⊢ iprop(room (F := F) c (M.slice (rR 0) (fun _ => rfl)) ∗ room (F := F) c (M.slice (rR 1) (fun _ => rfl))) := by
  iintro ⟨%X, H⟩
  ihave H := (pair_split c M X) $$ H
  icases H with ⟨H0, H1⟩
  unfold room
  isplitl [H0]
  · iexists _; iexact H0
  iexists _; iexact H1

/-- The eight blocks one by one. -/
theorem order_chain {M : Type} [URA M] (Φ : Fin 8 → sProp M) : bigSepL (order c) Φ
    = iprop(Φ (kk false c) ∗ Φ (kk false (snd false c)) ∗ Φ (kk false (nb false c)) ∗ Φ (kk false (opp c))
        ∗ Φ (kk true c) ∗ Φ (kk true (snd true c)) ∗ Φ (kk true (nb true c)) ∗ Φ (kk true (opp c))) := rfl

/-- The accumulator, contents unknown, as its eight blocks. -/
theorem acc_open : (iprop(∃ X, owns (c : Thread nD τ) oM fullShare X) : sProp 𝕄)
    ⊢ bigSepL (order c) fun k => room (F := F) c (oB k) := by
  have e (Φ : Fin 8 → sProp 𝕄) : bigSep Finset.univ Φ = bigSepL (order c) Φ := bigSep_eq_bigSepL_of_eq (order c) (order_univ c) (order_nodup c) Φ
  have h (X : FVec F S1024x1024 .bf16) : (bigSep Finset.univ fun k => has c (oB k) fullShare (blk k X) : sProp 𝕄) ⊢ bigSep Finset.univ fun k => room (F := F) c (oB k) :=
    bigSep_mono fun k _ => has_room c (oB k) (blk k X)
  iintro ⟨%X, H⟩
  iapply ((((acc_blocks c X).1.trans (Entails.of_eq (e _).symm)).trans (h X)).trans (Entails.of_eq (e _))) $$ H

/-- The eight blocks of the result make the accumulator. -/
theorem acc_close : bigSepL (order c) (fun k => has c (oB k) fullShare (blk k (fin m))) ⊢ (owns (c : Thread nD τ) oM fullShare (fin m) : sProp 𝕄) :=
  (acc_blocks c (fin m)).2

theorem run_bind {α β : Type} {p : Prog (TpuEff nD τ sig (Elt F) Λ₀ .tc) α} {k : α → Prog (TpuEff nD τ sig (Elt F) Λ₀ .tc) β} {Q : β → sProp 𝕄} :
    run (F := F) c p (fun a => run c (k a) Q) ⊢ run c (p >>= k) Q :=
  Entails.of_eq (wp_bind ..).symm

section Whole

variable {h0 : xM.IsWhole} {h1 : oM.IsWhole} {h2 : b0.IsWhole} {h3 : b1.IsWhole} {h4 : b2.IsWhole} {h5 : b3.IsWhole}

set_option maxHeartbeats 1600000 in
set_option maxRecDepth 65536 in
/-- The body, from what a device has at launch to what it has at the end. -/
theorem whole_body {Q : PUnit → sProp 𝕄} :
    iprop(base (F := F) m K ∗ barKit (F := F) c ∗ (bigSep Finset.univ fun t => sendKit (F := F) c t) ∗ (bigSep Finset.univ fun t => recvKit (F := F) c t)
        ∗ scratch (F := F) c ∗ owing c debts ∗ xHeld m c ∗ (∃ X, owns (c : Thread nD τ) oM fullShare X))
      ⊢ iprop(((semVal (barC c) 0 ∗ (bigSep Finset.univ fun t => semVal (sndC t c) 0) ∗ (bigSep Finset.univ fun t => semVal (rcvC t c) 0)
            ∗ scratch (F := F) c ∗ owing c [] ∗ xHeld m c ∗ owns (c : Thread nD τ) oM fullShare (fin m)) -∗ Q ⟨⟩)
          -∗ run c (cc0_body (F := F) xM h0 oM h1 b0 h2 b1 h3 b2 h4 b3 h5 cc0_scratch4 cc0_scratch5) Q) := by
  rw [cc0_body_eq_skeleton]
  unfold cc0_body_skel
  rw [xf_chain, xf_chain, xf_chain, xf_chain]
  unfold scratch
  iintro ⟨#Hb, Hbar, Hsend, Hrecv, ⟨Hb0, Hb1, Hg2, Ht2⟩, Ho, Hx, Hacc⟩ Hk
  icases Hsend with ⟨Hsf0, Hsf1, Hsf2, Hsf3, Hsf4, Hsf5, Hst0, Hst1, Hst2, Hst3, Hst4, Hst5⟩
  icases Hrecv with ⟨Hrf0, Hrf1, Hrf2, Hrf3, Hrf4, Hrf5, Hrt0, Hrt1, Hrt2, Hrt3, Hrt4, Hrt5⟩
  ihave Hb0 := (first_places c b0) $$ Hb0
  ihave Hb1 := (first_places c b1) $$ Hb1
  icases Hb0 with ⟨Hg0, Hg1⟩
  icases Hb1 with ⟨Ht0, Ht1⟩
  ihave Hacc := ((acc_open c).trans (Entails.of_eq (order_chain c _))) $$ Hacc
  icases Hacc with ⟨Afc, Afs, Afn, Afo, Atc, Ats, Atn, Ato⟩
  iapply (run_bind (F := F) c)
  iapply (part1 m K c) $$ [Hbar Hg0 Hg1 Ht2 Ht0 Ht1 Hg2 Ho]
  · isplitr; · iexact Hb
    isplitl [Hbar]; · iexact Hbar
    isplitl [Hg0 Hg1 Ht2]
    · isplitl [Hg0]; · iexact Hg0
      isplitl [Hg1]; · iexact Hg1
      iexact Ht2
    isplitl [Ht0 Ht1 Hg2]
    · isplitl [Ht0]; · iexact Ht0
      isplitl [Ht1]; · iexact Ht1
      iexact Hg2
    iexact Ho
  unfold barPay
  iintro %v2 %v5 %v6 %v7 %v17 %v19 %v21 %v24 %v26 %v28 ⟨Zb, ⟨⟨Nf0, Nf1, Nt2⟩, ⟨Nt0, Nt1, Nf2⟩⟩, Ho⟩
  iapply (run_bind (F := F) c)
  iapply (part2 m K c) $$ [Hx Afo Afn Hsf0 Nf0 Ho]
  · isplitr; · iexact Hb
    isplitl [Hx]; · iexact Hx
    isplitl [Afo Afn]
    · isplitl [Afo]; · iexact Afo
      iexact Afn
    isplitl [Hsf0]; · iexact Hsf0
    isplitl [Nf0]; · iexact Nf0
    iexact Ho
  iintro %v29 %v31 %v34 ⟨Hx, Afn, Ff0, Ho⟩
  iapply (run_bind (F := F) c)
  iapply (part3 m K c) $$ [Hx Afn Hsf1 Nf1 Ato Atn Hst0 Nt0 Ho]
  · isplitr; · iexact Hb
    isplitl [Hx]; · iexact Hx
    isplitl [Afn]; · iexact Afn
    isplitl [Hsf1]; · iexact Hsf1
    isplitl [Nf1]; · iexact Nf1
    isplitl [Ato Atn]
    · isplitl [Ato]; · iexact Ato
      iexact Atn
    isplitl [Hst0]; · iexact Hst0
    isplitl [Nt0]; · iexact Nt0
    iexact Ho
  iintro ⟨Hx, Ff1, Ft0, Atn, Ho⟩
  iapply (run_bind (F := F) c)
  iapply (part4 m K c) $$ [Hx Atn Hst1 Nt1 Afc Afs Atc Ats Hrf0 Ho]
  · isplitr; · iexact Hb
    isplitl [Hx]; · iexact Hx
    isplitl [Atn]; · iexact Atn
    isplitl [Hst1]; · iexact Hst1
    isplitl [Nt1]; · iexact Nt1
    isplitl [Afc Afs]
    · isplitl [Afc]; · iexact Afc
      iexact Afs
    isplitl [Atc Ats]
    · isplitl [Atc]; · iexact Atc
      iexact Ats
    isplitl [Hrf0]; · iexact Hrf0
    iexact Ho
  iintro ⟨Hx, Ft1, Afc, Atc, Afs, Ats, Hg0, Rf0, Mf0, Ho⟩
  iapply (run_bind (F := F) c)
  iapply (part5 m K c) $$ [Afs Hsf2 Nf2 Hrt0 Ats Hst2 Nt2 Ho]
  · isplitr; · iexact Hb
    isplitl [Afs]; · iexact Afs
    isplitl [Hsf2]; · iexact Hsf2
    isplitl [Nf2]; · iexact Nf2
    isplitl [Hrt0]; · iexact Hrt0
    isplitl [Ats]; · iexact Ats
    isplitl [Hst2]; · iexact Hst2
    isplitl [Nt2]; · iexact Nt2
    iexact Ho
  iintro ⟨Ff2, Ft2, Ht0, Rt0, Mt0, Ho⟩
  iapply (run_bind (F := F) c)
  iapply (part6 m K c) $$ [Afc Atc Hrf1 Hrt1 Ho]
  · isplitr; · iexact Hb
    isplitl [Afc]; · iexact Afc
    isplitl [Atc]; · iexact Atc
    isplitl [Hrf1]; · iexact Hrf1
    isplitl [Hrt1]; · iexact Hrt1
    iexact Ho
  iintro ⟨Afc, Atc, Hg1, Ht1, Rf1, Rt1, Mf1, Mt1, Ho⟩
  iapply (run_bind (F := F) c)
  iapply (part7 m K c) $$ [Afc Hrf2 Hsf3 Hsf4 Mf1 Ho]
  · isplitr; · iexact Hb
    isplitl [Afc]; · iexact Afc
    isplitl [Hrf2]; · iexact Hrf2
    isplitl [Hsf3]; · iexact Hsf3
    isplitl [Hsf4]; · iexact Hsf4
    isplitl [Mf1]; · iexact Mf1
    iexact Ho
  iintro ⟨Ff3, Ff4, Hg2, Rf2, Ho⟩
  iapply (run_bind (F := F) c)
  iapply (part8 m K c) $$ [Atc Hrt2 Hst3 Hst4 Mt1 Ho]
  · isplitr; · iexact Hb
    isplitl [Atc]; · iexact Atc
    isplitl [Hrt2]; · iexact Hrt2
    isplitl [Hst3]; · iexact Hst3
    isplitl [Hst4]; · iexact Hst4
    isplitl [Mt1]; · iexact Mt1
    iexact Ho
  iintro %v252 %w180 ⟨Ft3, Ft4, Ht2, Rt2, Ho⟩
  iapply (run_bind (F := F) c)
  iapply (part9 m K c) $$ [Hrf3 Hsf5 Mf0 Hrt3 Ho]
  · isplitr; · iexact Hb
    isplitl [Hrf3]; · iexact Hrf3
    isplitl [Hsf5]; · iexact Hsf5
    isplitl [Mf0]; · iexact Mf0
    isplitl [Hrt3]; · iexact Hrt3
    iexact Ho
  iintro ⟨Ff5, Ats, Rf3, Rt3, Ho⟩
  iapply (run_bind (F := F) c)
  iapply (part10 m K c) $$ [Ats Hst5 Mt0 Hrf4 Hrf5 Hrt4 Ho]
  · isplitr; · iexact Hb
    isplitl [Ats]; · iexact Ats
    isplitl [Hst5]; · iexact Hst5
    isplitl [Mt0]; · iexact Mt0
    isplitl [Hrf4]; · iexact Hrf4
    isplitl [Hrf5]; · iexact Hrf5
    isplitl [Hrt4]; · iexact Hrt4
    iexact Ho
  iintro ⟨Ft5, Afn, Afo, Atn, Rf4, Rf5, Rt4, Ho⟩
  iapply (run_bind (F := F) c)
  iapply (part11 m K c) $$ [Hrt5 Ff0 Ff1 Ff2 Ff3 Ff4 Ho]
  · isplitr; · iexact Hb
    isplitl [Hrt5]; · iexact Hrt5
    isplitl [Ff0]; · iexact Ff0
    isplitl [Ff1]; · iexact Ff1
    isplitl [Ff2]; · iexact Ff2
    isplitl [Ff3]; · iexact Ff3
    isplitl [Ff4]; · iexact Ff4
    iexact Ho
  iintro ⟨Ato, Afc, Rt5, Sf0, Sf1, Sf2, Sf3, Sf4, Ho⟩
  iapply (run_bind (F := F) c)
  iapply (part12 m K c) $$ [Ff5 Ft0 Ft1 Ft2 Ft3 Ft4 Ho]
  · isplitr; · iexact Hb
    isplitl [Ff5]; · iexact Ff5
    isplitl [Ft0]; · iexact Ft0
    isplitl [Ft1]; · iexact Ft1
    isplitl [Ft2]; · iexact Ft2
    isplitl [Ft3]; · iexact Ft3
    isplitl [Ft4]; · iexact Ft4
    iexact Ho
  iintro ⟨Afs, Atc, Sf5, St0, St1, St2, St3, St4, Ho⟩
  iapply (step_sent m K c (true, 5) (debts.drop 14) (by rfl) (by rfl)) $$ [Ft5 Ho]
  · isplitr; · iexact Hb
    isplitl [Ft5]; · iexact Ft5
    iexact Ho
  iintro ⟨St5, Ats, Ho⟩
  ihave Ats := (Entails.of_eq (snd5 m c true)) $$ Ats
  ihave Hacc := ((Entails.of_eq (order_chain c _).symm).trans (acc_close m c)) $$ [Afc Afs Afn Afo Atc Ats Atn Ato]
  · isplitl [Afc]; · iexact Afc
    isplitl [Afs]; · iexact Afs
    isplitl [Afn]; · iexact Afn
    isplitl [Afo]; · iexact Afo
    isplitl [Atc]; · iexact Atc
    isplitl [Ats]; · iexact Ats
    isplitl [Atn]; · iexact Atn
    iexact Ato
  ihave Hb0 := (pair_join c b0) $$ [Hg0 Hg1]
  · isplitl [Hg0]; · iexact Hg0
    iexact Hg1
  ihave Hb1 := (pair_join c b1) $$ [Ht0 Ht1]
  · isplitl [Ht0]; · iexact Ht0
    iexact Ht1
  iapply (run_ret (F := F) c)
  iapply Hk
  isplitl [Zb]; · iexact Zb
  isplitl [Sf0 Sf1 Sf2 Sf3 Sf4 Sf5 St0 St1 St2 St3 St4 St5]
  · isplitl [Sf0]; · iexact Sf0
    isplitl [Sf1]; · iexact Sf1
    isplitl [Sf2]; · iexact Sf2
    isplitl [Sf3]; · iexact Sf3
    isplitl [Sf4]; · iexact Sf4
    isplitl [Sf5]; · iexact Sf5
    isplitl [St0]; · iexact St0
    isplitl [St1]; · iexact St1
    isplitl [St2]; · iexact St2
    isplitl [St3]; · iexact St3
    isplitl [St4]; · iexact St4
    iexact St5
  isplitl [Rf0 Rf1 Rf2 Rf3 Rf4 Rf5 Rt0 Rt1 Rt2 Rt3 Rt4 Rt5]
  · isplitl [Rf0]; · iexact Rf0
    isplitl [Rf1]; · iexact Rf1
    isplitl [Rf2]; · iexact Rf2
    isplitl [Rf3]; · iexact Rf3
    isplitl [Rf4]; · iexact Rf4
    isplitl [Rf5]; · iexact Rf5
    isplitl [Rt0]; · iexact Rt0
    isplitl [Rt1]; · iexact Rt1
    isplitl [Rt2]; · iexact Rt2
    isplitl [Rt3]; · iexact Rt3
    isplitl [Rt4]; · iexact Rt4
    iexact Rt5
  isplitl [Hb0 Hb1 Hg2 Ht2]
  · isplitl [Hb0]; · iexact Hb0
    isplitl [Hb1]; · iexact Hb1
    isplitl [Hg2]; · iexact Hg2
    iexact Ht2
  isplitl [Ho]; · iexact Ho
  isplitl [Hx]; · iexact Hx
  iexact Hacc

end Whole

end Cert.KernelIdeal.AllReduce

end
-- ==== Proof.KernelIdeal.Deal.lean ====
/-
# Dealing the protocol out

At launch every cell's invariant is allocated, every device learns of all of them, and the duty tokens go to the devices
that perform the duties: a barrier's to the two neighbours, a receive semaphore's to the peer of its transfer. What a
device is owed by the others together is its credit.
-/
module

public import proofs.«01_k».proof.Proof.KernelIdeal.Plan
public import Idealize.ShloMosaic.Lib.Pipeline.Launch
public import Idealize.ShloMosaic.Lib.Pipeline.Kit

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions over a device's cells -/

/-- Over a device's cells: the barrier, the issuers', the receivers'. -/
theorem ci_split {M : Type} [URA M] (Φ : CI → sProp M) : bigSep Finset.univ Φ
    = iprop(Φ none ∗ (bigSep Finset.univ fun t => Φ (some (false, t))) ∗ bigSep Finset.univ fun t => Φ (some (true, t))) := by
  rw [bigSep_univ_equiv (Equiv.optionEquivSumPUnit.{0, 0} (Bool × Xf)).symm, bigSep_univ_sum, bigSep_univ_prod,
    bigSep_univ_eq_bigSepL [false, true] (by decide) (by decide), bigSep_univ_of_subsingleton PUnit.unit]
  exact equiv_iff.mp ⟨BI.sep_comm, BI.sep_comm⟩

/-! ## The own semaphores -/

/-- The semaphores of the kernel's own: all but the barrier. -/
abbrev osem : Bool × Xf → SemLoc sig := fun k => csem (some k)

theorem ownSemFacts : Pipeline.OwnSemFacts cfg0.spec osem := by decide

theorem own_chain (c : Dev nD) : (Pipeline.ownSems0 (Ix := Unit) (Name := ℕ) (U := UU) (Lvl := ℕ) (Val := Elt F) (τ := τ) osem c : sProp 𝕄)
    = iprop((bigSep Finset.univ fun t => semVal (sndC t c) 0) ∗ bigSep Finset.univ fun t => semVal (rcvC t c) 0) := by
  unfold Pipeline.ownSems0
  rw [bigSep_univ_prod, bigSep_univ_eq_bigSepL [false, true] (by decide) (by decide)]
  rfl

/-- The barrier semaphore is the one the launch itself does not scope. -/
theorem bar_chain (c : Dev nD) : (unscopedSems0 c : sProp 𝕄) = semVal (barC c) 0 := by
  unfold unscopedSems0
  rw [bigSep_eq_bigSepL_of_eq [SemLoc.reg barS] (by decide) (by decide)]
  rfl

/-! ## Tokens and positions -/

/-- The duties of a device's own cells: the barrier's two, and one per other cell. -/
abbrev tokOf (cd : Dev nD × (Bool ⊕ (Bool × Xf))) : GSem nD τ sig × ℕ × Bool := match cd.2 with
  | .inl d => (barC cd.1, 0, d)
  | .inr k => (kcell (cd.1, some k), 0, false)

theorem tokOf_injective : Function.Injective tokOf := by
  rintro ⟨c, d | k⟩ ⟨c', d' | k'⟩ h
  · have h1 : c = c' := congrArg (fun x : GSem nD τ sig × ℕ × Bool => x.1.1.1) h
    have h2 : d = d' := congrArg (fun x : GSem nD τ sig × ℕ × Bool => x.2.2) h
    rw [h1, h2]
  · exact absurd (kcell_injective (a₁ := (c, none)) (a₂ := (c', some k')) (congrArg Prod.fst h)) (by simp)
  · exact absurd (kcell_injective (a₁ := (c, some k)) (a₂ := (c', none)) (congrArg Prod.fst h)) (by simp)
  · have h1 := kcell_injective (a₁ := (c, some k)) (a₂ := (c', some k')) (congrArg Prod.fst h)
    simp only [Prod.mk.injEq, Option.some.injEq] at h1
    rw [h1.1, h1.2]

def allCells : Finset (GSem nD τ sig) := Finset.univ.map ⟨kcell, kcell_injective⟩
def allToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf allCells allToks)

/-- The tokens of the duties of `c`'s cells. -/
def minted (c : Dev nD) : sProp 𝕄 :=
  iprop((dutyTok ER (barC c) 0 false ∗ dutyTok ER (barC c) 0 true)
    ∗ (bigSep Finset.univ fun t => dutyTok ER (sndC t c) 0 false) ∗ bigSep Finset.univ fun t => dutyTok ER (rcvC t c) 0 false)

/-- The tokens of the duties that `c` performs. -/
def mine (c : Dev nD) : sProp 𝕄 :=
  iprop((dutyTok ER (barC (nb false c)) 0 false ∗ dutyTok ER (barC (nb true c)) 0 true)
    ∗ (bigSep Finset.univ fun t => dutyTok ER (sndC t c) 0 false) ∗ bigSep Finset.univ fun t => dutyTok ER (rcvC t (peer t c)) 0 false)

theorem minted_mine : (bigSep Finset.univ fun c => (minted c : sProp 𝕄)) ⊢ bigSep Finset.univ fun c => mine c := by
  unfold minted mine
  simp only [bigSep_sep']
  rw [bigSep_univ_equiv (nbEquiv false) (fun c : Dev nD => (dutyTok ER (barC c) 0 false : sProp 𝕄)),
    bigSep_univ_equiv (nbEquiv true) (fun c : Dev nD => (dutyTok ER (barC c) 0 true : sProp 𝕄)),
    bigSep_univ_comm (fun (c : Dev nD) (t : Xf) => (dutyTok ER (rcvC t c) 0 false : sProp 𝕄)),
    bigSep_congr (s := Finset.univ) (fun (t : Xf) _ => bigSep_univ_equiv (peerEquiv t) (fun c : Dev nD => (dutyTok ER (rcvC t c) 0 false : sProp 𝕄))),
    bigSep_univ_comm (fun (t : Xf) (c : Dev nD) => (dutyTok ER (rcvC t (peerEquiv t c)) 0 false : sProp 𝕄))]
  exact .rfl

/-- What the launch gives device `c`. -/
def G (c : Dev nD) : sProp 𝕄 :=
  iprop((bigSep Finset.univ fun k : CI => roundState ER (Rd (F := F) m) (kcell (c, k)) 0)
    ∗ (bigSep Finset.univ fun k : CI => reached ER (kcell (c, k)) 0) ∗ (bigSep Finset.univ fun k : CI => atPos ER (kcell (c, k)) 0 ∅ 0) ∗ minted c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]
    refine bigSep_congr fun c _ => ?_
    rw [bigSep_univ_sum, bigSep_univ_prod, bigSep_univ_eq_bigSepL [false, true] (by decide) (by decide), bigSep_univ_eq_bigSepL [false, true] (by decide) (by decide)]
    rfl
  refine (Rounds.fund ER (Rd (F := F) m) allCells allToks).trans (BI.bupd_mono ?_)
  rw [hX, hX, hX, hT]
  unfold G
  simp only [bigSep_sep']
  exact BI.Entails.refl _

/-! ## The global step -/

/-- What every device learns: all invariants, and that every cell has reached its round. -/
def recs (K : Dev nD × CI → ℕ) : sProp 𝕄 :=
  bigSep Finset.univ fun ck : Dev nD × CI => iprop(cellInv ER (Rd (F := F) m) (K ck) (kcell ck) ∗ reached ER (kcell ck) 0)

instance recs_persistent (K : Dev nD × CI → ℕ) : BI.Persistent (recs (F := F) m K) := by unfold recs; infer_instance

/-- What device `c` holds alone: its positions and the tokens of the duties it performs. -/
def alone (c : Dev nD) : sProp 𝕄 := iprop((bigSep Finset.univ fun k : CI => atPos ER (kcell (c, k)) 0 ∅ 0) ∗ mine c)

/-- What device `c` has after the global step. -/
def G' (c : Dev nD) : sProp 𝕄 := iprop(∃ K, recs (F := F) m K ∗ alone c)

theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd (F := F) m) κ (kcell (c, k))))
          ∗ (bigSep Finset.univ fun k : CI => reached ER (kcell (c, k)) 0) ∗ (bigSep Finset.univ fun k : CI => atPos ER (kcell (c, k)) 0 ∅ 0) ∗ minted c) := by
  have hv : iprop((semVal (barC c) 0 ∗ (bigSep Finset.univ fun t => semVal (sndC t c) 0) ∗ bigSep Finset.univ fun t => semVal (rcvC t c) 0)
        ∗ bigSep Finset.univ fun k : CI => roundState ER (Rd (F := F) m) (kcell (c, k)) 0)
      ⊢ (|={Set.univ}=> bigSep Finset.univ fun k : CI => iprop(∃ κ : ℕ, cellInv ER (Rd (F := F) m) κ (kcell (c, k))) : sProp 𝕄) := by
    rw [show iprop(semVal (barC c) 0 ∗ (bigSep Finset.univ fun t => semVal (sndC t c) 0) ∗ bigSep Finset.univ fun t => semVal (rcvC t c) 0)
        = (bigSep Finset.univ fun k : CI => semVal (kcell (c, k)) 0 : sProp 𝕄) from (ci_split fun k : CI => (semVal (kcell (c, k)) 0 : sProp 𝕄)).symm, ← bigSep_sep']
    exact (bigSep_mono fun k _ => (Rounds.body_intro ER (Rd (F := F) m) (kcell (c, k))).trans inv_alloc).trans (bigSep_fupd _ _)
  rw [own_chain, bar_chain]
  unfold G
  iintro ⟨⟨Hs, Hr⟩, Hb, Hst, Hre, Hat, Htok⟩
  imod hv $$ [Hs Hr Hb Hst] with HI
  · isplitr [Hst]
    · isplitl [Hb]; · iexact Hb
      isplitl [Hs] <;> iassumption
    iexact Hst
  imodintro
  isplitl [HI]; · iexact HI
  isplitl [Hre]; · iexact Hre
  isplitl [Hat]; · iexact Hat
  iexact Htok

theorem share_out :
    (bigSep Finset.univ fun c : Dev nD => iprop((bigSep Finset.univ fun k : CI => iprop(∃ κ : ℕ, cellInv ER (Rd (F := F) m) κ (kcell (c, k))))
          ∗ (bigSep Finset.univ fun k : CI => reached ER (kcell (c, k)) 0) ∗ (bigSep Finset.univ fun k : CI => atPos ER (kcell (c, k)) 0 ∅ 0) ∗ minted c) : sProp 𝕄)
      ⊢ bigSep Finset.univ (G' m) := by
  simp only [bigSep_sep']
  rw [← bigSep_univ_prod (fun ck : Dev nD × CI => iprop(∃ κ : ℕ, cellInv ER (Rd (F := F) m) κ (kcell ck))),
    ← bigSep_univ_prod (fun ck : Dev nD × CI => (reached ER (kcell ck) 0 : sProp 𝕄))]
  iintro ⟨HI, #HR, Hat, Htok⟩
  ihave HK := (BI.bigSep_exists_pi Finset.univ (fun (ck : Dev nD × CI) (κ : ℕ) => (cellInv ER (Rd (F := F) m) κ (kcell ck) : sProp 𝕄))) $$ HI
  icases HK with ⟨%K, #HI⟩
  ihave Htk := (minted_mine (F := F)) $$ Htok
  have hk (c : Dev nD) : iprop(recs (F := F) m K ∗ alone c) ⊢ G' m c := by
    unfold G'
    iintro H
    iexists K
    iexact H
  have hg : iprop(recs (F := F) m K ∗ bigSep Finset.univ fun c : Dev nD => (alone c : sProp 𝕄)) ⊢ bigSep Finset.univ (G' m) :=
    (sep_mono_left (BI.bigSep_of_persistent Finset.univ (recs (F := F) m K))).trans (by
      rw [← bigSep_sep']
      exact bigSep_mono fun c _ => hk c)
  have hr : iprop((bigSep Finset.univ fun ck => (cellInv ER (Rd (F := F) m) (K ck) (kcell ck) : sProp 𝕄)) ∗ bigSep Finset.univ fun ck : Dev nD × CI => reached ER (kcell ck) 0)
      ⊢ recs (F := F) m K := by
    unfold recs; rw [bigSep_sep']
  have ha : iprop((bigSep Finset.univ fun c : Dev nD => bigSep Finset.univ fun k : CI => (atPos ER (kcell (c, k)) 0 ∅ 0 : sProp 𝕄)) ∗ bigSep Finset.univ fun c : Dev nD => mine c)
      ⊢ bigSep Finset.univ fun c : Dev nD => (alone c : sProp 𝕄) := by
    unfold alone; rw [bigSep_sep']
  iapply hg
  isplitr [Hat Htk]
  · iapply hr
    isplitl; · iexact HI
    iexact HR
  · iapply ha
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (share_out m))

/-! ## Credit -/

theorem OL_apply (c : Dev nD) (l : List Debt) (g : GSem nD τ sig) :
    OL c l g () = (l.map fun d => if g = d.cell c then d.amt else 0).sum := by
  induction l with
  | nil => rfl
  | cons d l ih =>
    rw [OL_cons, Pi.add_apply, Finsupp.add_apply, tallyAt_apply, ih, List.map_cons, List.sum_cons, Nat.add_comm]
    congr 1
    by_cases h : g = d.cell c
    · rw [if_pos ⟨h, rfl⟩, if_pos h]
    · rw [if_neg (fun h' => h h'.1), if_neg h]

theorem bar_cell_iff (c d : Dev nD) (b : Bool) : barC c = (Debt.bar b).cell d ↔ d = nb b c := by
  refine ⟨fun h => ?_, fun h => by rw [h]; show barC c = barC (nb b (nb b c)); rw [nb_nb]⟩
  have h1 : c = nb b d := congrArg (fun g : GSem nD τ sig => g.1.1) h
  rw [h1, nb_nb]

theorem rcv_cell_iff (c d : Dev nD) (t u : Xf) : rcvC t c = (Debt.xf u).cell d ↔ t = u ∧ d = peer t c := by
  constructor
  · intro h
    have h0 := kcell_injective (a₁ := (c, some (true, t))) (a₂ := (peer u d, some (true, u))) h
    simp only [Prod.mk.injEq, Option.some.injEq, true_and] at h0
    obtain ⟨h1, rfl⟩ := h0
    exact ⟨rfl, by rw [h1, peer_peer]⟩
  · rintro ⟨rfl, rfl⟩
    show rcvC t c = rcvC t (peer t (peer t c)); rw [peer_peer]

theorem bar_ne_xf (c d : Dev nD) (u : Xf) : barC c ≠ (Debt.xf u).cell d := fun h =>
  absurd (kcell_injective (a₁ := (c, none)) (a₂ := (peer u d, some (true, u))) h) (by simp)
theorem rcv_ne_bar (c d : Dev nD) (t : Xf) (b : Bool) : rcvC t c ≠ (Debt.bar b).cell d := fun h =>
  absurd (kcell_injective (a₁ := (c, some (true, t))) (a₂ := (nb b d, none)) h) (by simp)

theorem owed_bar (d c : Dev nD) : OL d debts (barC c) () = (if d = nb false c then 1 else 0) + (if d = nb true c then 1 else 0) := by
  rw [OL_apply]
  simp only [debts, List.map_cons, List.map_nil, List.sum_cons, List.sum_nil, bar_cell_iff, if_neg (bar_ne_xf c d _), Debt.amt, Nat.add_zero]

theorem owed_rcv (t : Xf) (d c : Dev nD) : OL d debts (rcvC t c) () = if d = peer t c then N else 0 := by
  rw [OL_apply]
  simp only [debts, List.map_cons, List.map_nil, List.sum_cons, List.sum_nil, rcv_cell_iff, if_neg (rcv_ne_bar c d _ _), Debt.amt]
  by_cases h : d = peer t c
  · simp only [h, and_true, if_true]
    generalize N = n
    obtain ⟨b, i⟩ := t
    cases b <;> fin_cases i <;> simp
  · simp [h]

theorem credit_bar (c : Dev nD) :
    tallyOn (barC c) (launchCredit (Pipeline.owing fun d => OL d debts) 0 (barC c)) = (tallyAt (barC c) () 2 : CellTallies nD τ sig Unit) := by
  unfold tallyAt
  refine congrArg _ (Finsupp.ext fun u => ?_)
  rw [Pipeline.launchCredit_owing, Finsupp.single_eq_same, Finset.sum_congr rfl fun d _ => owed_bar d c, Finset.sum_add_distrib,
    Finset.sum_ite_eq' Finset.univ (nb false c) fun _ => 1, Finset.sum_ite_eq' Finset.univ (nb true c) fun _ => 1, if_pos (Finset.mem_univ _), if_pos (Finset.mem_univ _)]

theorem credit_rcv (c : Dev nD) (t : Xf) :
    tallyOn (rcvC t c) (launchCredit (Pipeline.owing fun d => OL d debts) 0 (rcvC t c)) = (tallyAt (rcvC t c) () N : CellTallies nD τ sig Unit) := by
  unfold tallyAt
  refine congrArg _ (Finsupp.ext fun u => ?_)
  rw [Pipeline.launchCredit_owing, Finsupp.single_eq_same, Finset.sum_congr rfl fun d _ => owed_rcv t d c,
    Finset.sum_ite_eq' Finset.univ (peer t c) fun _ => N, if_pos (Finset.mem_univ _)]

/-- The receivers' semaphores among a device's. -/
theorem rcv_injective : Function.Injective fun t : Xf => (SemLoc.dma (rcvS t) : SemLoc sig) := by decide

theorem credits (c : Dev nD) : (Pipeline.launchCred (fun d => OL d debts) c : sProp 𝕄)
    ⊢ iprop(cred (tallyAt (barC c) () 2) ∗ bigSep Finset.univ fun t => cred (tallyAt (rcvC t c) () N)) := by
  unfold Pipeline.launchCred
  rw [bigSep_univ_at _ (SemLoc.reg barS), credit_bar]
  refine sep_mono_right ?_
  have e : (bigSep Finset.univ fun t : Xf => (cred (tallyAt (rcvC t c) () N) : sProp 𝕄))
      = bigSep Finset.univ fun t : Xf => cred (tallyOn (rcvC t c) (launchCredit (Pipeline.owing fun d => OL d debts) 0 (rcvC t c))) :=
    bigSep_congr fun t _ => by rw [credit_rcv]
  rw [e]
  have hsub : Finset.univ.map ⟨_, rcv_injective⟩ ⊆ Finset.univ.erase (SemLoc.reg barS : SemLoc sig) := fun s hs => by
    obtain ⟨t, -, rfl⟩ := Finset.mem_map.mp hs
    exact Finset.mem_erase.mpr ⟨fun h => (by cases h), Finset.mem_univ _⟩
  refine BIBase.Entails.trans (bigSep_subset hsub) ?_
  rw [bigSep_map]
  exact BI.Entails.refl _

/-! ## A device's start -/

/-- What device `c` starts its body with, apart from memory. -/
def start (c : Dev nD) : sProp 𝕄 :=
  iprop(∃ K, base (F := F) m K ∗ barKit (F := F) c ∗ (bigSep Finset.univ fun t => sendKit (F := F) c t) ∗ bigSep Finset.univ fun t => recvKit (F := F) c t)

theorem start_of (c : Dev nD) :
    iprop(levAts L lv ∗ Pipeline.launchCred (fun d => OL d debts) c ∗ G' m c) ⊢ (start m c : sProp 𝕄) := by
  unfold G' start alone mine base recs barKit sendKit recvKit
  simp only [bigSep_sep', ci_split]
  iintro ⟨#Hl, Hc, ⟨%K, #Hrecs, ⟨Pb, Ps, Pr⟩, Tb, Ts, Tr⟩⟩
  ihave Hc := (credits (F := F) c) $$ Hc
  icases Hc with ⟨Cb, Cr⟩
  iexists K
  isplitr
  · isplitl; · iexact Hrecs
    iexact Hl
  isplitl [Tb Cb Pb]
  · isplitl [Tb]; · iexact Tb
    isplitl [Cb]; · iexact Cb
    iexact Pb
  isplitl [Ts Tr Ps]
  · isplitl [Ts]; · iexact Ts
    isplitl [Tr]; · iexact Tr
    iexact Ps
  isplitl [Cr]; · iexact Cr
  iexact Pr

end Cert.KernelIdeal.AllReduce

end
-- ==== Proof.KernelIdeal.Launch.lean ====
/-
# The run

The whole program on the four devices: the body between the two copies of its windows, and what every final memory
holds. The array `x` is unchanged and every device's result is `fin`.
-/
module

public import proofs.«01_k».proof.Proof.KernelIdeal.Body
public import proofs.«01_k».proof.Proof.KernelIdeal.Deal
public import proofs.«01_k».proof.Proof.Gen.KernelIdeal.Launch
public import Idealize.ShloMosaic.Lib.Pipeline.CollectiveSegs

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- After the body: the scratch arrays, and every semaphore of the device at zero. -/
def finish (c : Dev nD) : sProp 𝕄 :=
  iprop(scratch (F := F) c ∗ semVal (barC c) 0 ∗ (bigSep Finset.univ fun t => semVal (sndC t c) 0) ∗ bigSep Finset.univ fun t => semVal (rcvC t c) 0)

/-- The region's data: what its windows hold before and after, and what else the body has. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => fin m
  Φ t := match t with
    | ⟨0, _⟩ => iprop(start m c ∗ scratch (F := F) c)
    | ⟨_ + 1, _⟩ => finish c
  q _ := fullShare
  owed t := match t with
    | ⟨0, _⟩ => OL c debts
    | ⟨_ + 1, _⟩ => 0

theorem share_eq (c : Dev nD) (w : Fin cfg0.W) : (dats m ρ 0 c).share w = fullShare := by unfold Dat.share; split <;> rfl

theorem fetch_x (t : Fin cfg0.N) : (cfg0.win (0 : Fin 2)).fetch t = true := by rw [fin_N0 t]; rfl

abbrev theBody : Prog (TpuEff nD τ sig (Elt F) Λ₀ .tc) PUnit :=
  cc0_body (F := F) xM (Memref.isWhole_whole _) oM (Memref.isWhole_whole _) b0 (Memref.isWhole_whole _) b1 (Memref.isWhole_whole _)
    b2 (Memref.isWhole_whole _) b3 (Memref.isWhole_whole _) cc0_scratch4 cc0_scratch5

set_option maxRecDepth 8000 in
/-- The body takes the region's data from before to after. -/
theorem body_ok (c : Dev nD) :
    iprop((start m c ∗ scratch (F := F) c) ∗ (dats m ρ 0 c).owesAt () t0_0.castSucc
        ∗ (∃ d, owns (c : Thread nD τ) xM fullShare ((dats m ρ 0 c).before (0 : Fin 2) t0_0 d))
        ∗ (∃ d, owns (c : Thread nD τ) oM fullShare ((dats m ρ 0 c).before (1 : Fin 2) t0_0 d)))
      ⊢ run c (theBody (F := F)) fun _ =>
          iprop(finish c ∗ (dats m ρ 0 c).owesAt () t0_0.succ ∗ owns (c : Thread nD τ) xM fullShare (xstg m c) ∗ owns (c : Thread nD τ) oM fullShare (fin m)) := by
  have hx (d) : (dats m ρ 0 c).before (0 : Fin 2) t0_0 d = xstg m c := by unfold Dat.before; rw [if_pos (fetch_x t0_0)]; rfl
  simp only [hx]
  unfold Dat.owesAt Pipeline.owesWithin start
  rw [show (dats m ρ 0 c).owed t0_0.castSucc = OL c debts from rfl, show (dats m ρ 0 c).owed t0_0.succ = 0 from rfl]
  iintro ⟨⟨⟨%K, #Hb, Hbar, Hs, Hr⟩, Hscr⟩, ⟨%W, %hW, HO⟩, ⟨%dx, Hx⟩, ⟨%d1, Ho⟩⟩
  iapply (whole_body m K c) $$ [Hbar Hs Hr Hscr HO Hx Ho]
  · isplitr; · iexact Hb
    isplitl [Hbar]; · iexact Hbar
    isplitl [Hs]; · iexact Hs
    isplitl [Hr]; · iexact Hr
    isplitl [Hscr]; · iexact Hscr
    isplitl [HO]
    · unfold owing
      iexists W
      iexact HO
    isplitl [Hx]; · iexact Hx
    iexists _
    iexact Ho
  unfold finish owing
  iintro ⟨Zb, Zs, Zr, Hscr, ⟨%W', HO⟩, Hx, Ho⟩
  isplitl [Zb Zs Zr Hscr]
  · isplitl [Hscr]; · iexact Hscr
    isplitl [Zb]; · iexact Zb
    isplitl [Zs]; · iexact Zs
    iexact Zr
  isplitl [HO]
  · iexists W'
    isplitr
    · ipureintro
      exact fun _ _ => Or.inl trivial
    iexact HO
  isplitl [Hx]; · iexact Hx
  iexact Ho

set_option maxRecDepth 8000 in
theorem body_obligation (c : Dev nD) : BodyObligation (dats (F := F) m ρ 0 c) (defs₀ (F := F)) 𝒱₀ () Set.univ := fun t => by
  rw [fin_N0 t, bigSep_W0, bigSep_W0]
  exact body_ok m ρ c

/-! ## The scratch arrays in and out -/

theorem whole_some (c : Dev nD) (b : Ref sig .tc) :
    (iprop(∃ X, owns (c : Thread nD τ) (Memref.whole b) fullShare X) : sProp 𝕄)
      ⊣⊢ iprop(∃ f : Buf (Elt F) ((c : Thread nD τ).loc b), ((c : Thread nD τ).loc b) ↦{fullShare} f) := by
  unfold owns
  simp only [Memref.view_whole, View.read_whole, View.set_whole]
  constructor
  · iintro ⟨%X, %f, -, H⟩
    iexists f
    iexact H
  · iintro ⟨%f, H⟩
    iexists _, f
    isplitr
    · ipureintro; rfl
    iexact H

theorem scratch_of (c : Dev nD) : (Pipeline.scopedRest cfg0.spec c : sProp 𝕄) ⊢ scratch c := by
  rw [scopedRest0_eq]
  unfold scratch room
  exact BIClass.sep_mono (whole_some c cc0_scratch0).2 (BIClass.sep_mono (whole_some c cc0_scratch1).2 (BIClass.sep_mono (whole_some c cc0_scratch2).2 (whole_some c cc0_scratch3).2))

theorem scratch_to (c : Dev nD) : scratch c ⊢ (Pipeline.scopedRest cfg0.spec c : sProp 𝕄) := by
  rw [scopedRest0_eq]
  unfold scratch room
  exact BIClass.sep_mono (whole_some c cc0_scratch0).1 (BIClass.sep_mono (whole_some c cc0_scratch1).1 (BIClass.sep_mono (whole_some c cc0_scratch2).1 (whole_some c cc0_scratch3).1))

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => OL d debts) c ∗ prngReg c (ρ c) ∗ G' m c)
      ⊢ |={Set.univ}=> iprop(start m c ∗ emp) := by
  iintro ⟨-, Hl, Hc, -, HG⟩
  ihave H := (start_of m c) $$ [Hl Hc HG]
  · isplitl [Hl]; · iexact Hl
    isplitl [Hc]; · iexact Hc
    iexact HG
  imodintro
  isplitl
  · iexact H
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch (F := F) c) from rfl]
  iintro ⟨Hs, -, Hr⟩
  isplitl [Hs]; · iexact Hs
  iapply (scratch_of c) $$ Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, own_chain, bar_chain]
  unfold finish
  iintro ⟨Hscr, Zb, Zs, Zr⟩
  isplitl [Zb]; · iexact Zb
  isplitl [Zs Zr]
  · isplitl [Zs]; · iexact Zs
    iexact Zr
  iapply (scratch_to c) $$ Hscr

theorem waits (c : Dev nD) : (levAts L lv : sProp 𝕄) ⊢ Pipeline.cellsWaits cfgs (dats m ρ) () 0 c :=
  Pipeline.cellsWaits_intro cfgs (dats m ρ) () 0 c fun w s t => by
    have h0 : klev (kindOf (SemLoc.dma ((cfg0.win w).sem s))) = 0 := by revert w s; decide
    rcases t with ⟨_ | _, ht⟩
    · exact mayWait c _ debts fun d _ => h0.symm ▸ d.lev_pos
    · exact mayWait c _ [] fun d hd => absurd hd List.not_mem_nil

/-! ## The run -/

/-- What every final memory holds: each device's windows' arrays as the region leaves them. -/
def Done : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- Every weakly fair run on the four devices ends, with the arrays as said and all semaphores at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => OL d debts) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` after the run is `x` before. -/
theorem kept (c : Dev nD) : (dats m ρ 0 c).arrAt (0 : Fin 2) cfg0.N = m ((c : Thread nD τ).loc main_arg0) :=
  (dats (F := F) m ρ 0 c).arrAt_in (0 : Fin 2) rfl _

end Cert.KernelIdeal.AllReduce

end
-- ==== Proof.KernelIdeal.ValueKernel.lean ====
/-
# The kernel's result over the extended reals

The result window's one write-back leaves `fin` in each device's result array. At the ideal values both orders of the
two exchanges make the same sum over the four devices, so an element of `fin` is the sum of that element over the
devices' blocks of `x`.
-/
module

public import proofs.«01_k».proof.Proof.KernelIdeal.Launch
public import Idealize.ShloMosaic.PureOps.Ideal.Laws

@[expose] public section

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

section AnyValues

variable {F : FTy → Type} [FloatOps F]
variable (m : (ℓ : Loc nD τ sig) → Buf (Elt F) ℓ) (ρ : Dev nD → PrngReg)

/-- Every device's result array holds `fin` at the end. -/
theorem result (c : Dev nD) : (dats m ρ 0 c).arrAt (1 : Fin 2) cfg0.N = fin m :=
  (dats m ρ 0 c).arrAt_eq_of_after_last (1 : Fin 2) t0_0 (by decide +kernel) (fin m) (fun _ => rfl)

/-- The staged block is the array itself. -/
theorem xw_eq (c : Dev nD) (i : S1024x1024.Idx) :
    xw m c i = m ((c : Thread nD τ).loc main_arg0) (ix4 (0 : Fin 1) (0 : Fin 1) (i 0) (i 1)) := by
  unfold xw xstg
  blk_simp
  congr 1
  have e : ∀ a : Fin 4, win0_0.index (0 : Fin 1) a = 0 := by decide +kernel
  blk_ext [e]

end AnyValues

variable (m : (ℓ : Loc nD τ sig) → Buf (Elt Ideal) ℓ)

/-- Two exchanges, in either order and seen from any device, add up the four devices' numbers. -/
theorem four_sum (f : Fin 4 → EReal) (h : Bool) (c : Dev nD) :
    (f c + f (nb h c)) + (f (snd h c) + f (nb h (snd h c))) = ∑ d : Fin 4, f d := by
  rw [Fin.sum_univ_four]
  have hc : c = 0 ∨ c = 1 ∨ c = 2 ∨ c = 3 := by revert c; decide
  have t0 : nb false 0 = 1 ∧ nb false 1 = 0 ∧ nb false 2 = 3 ∧ nb false 3 = 2 := by decide
  have t1 : nb true 0 = 2 ∧ nb true 1 = 3 ∧ nb true 2 = 0 ∧ nb true 3 = 1 := by decide
  obtain ⟨a0, a1, a2, a3⟩ := t0
  obtain ⟨b0, b1, b2, b3⟩ := t1
  rcases hc with rfl | rfl | rfl | rfl <;> cases h <;>
    simp only [snd, Bool.not_false, Bool.not_true, a0, a1, a2, a3, b0, b1, b2, b3] <;> abel

/-- An element of the result: the sum over the devices' blocks. -/
theorem fin_sum (i : S1024x1024.Idx) :
    fin m i = ∑ d : Fin 4, (show EReal from
      m (((d : Dev nD) : Thread nD τ).loc main_arg0) (ix4 (0 : Fin 1) (0 : Fin 1) (i 0) (i 1))) := by
  refine (four_sum (fun d => xw m d i) _ _).trans (Finset.sum_congr rfl fun d _ => ?_)
  exact xw_eq m d i

end Cert.KernelIdeal.AllReduce

end
-- ==== Proof.KernelIdeal.ValueReference.lean ====
/-
# The reference's result over the extended reals

Summing a `2 × 2 × 1024 × 1024` array over its first two axes gives, at each place, the sum of four elements, one for
each device of the mesh: device `d = 2x + y` stands for the coordinates `(x, y)`.
-/
module

public import proofs.«01_k».proof.Proof.Gen.ReferenceIdeal
public import proofs.«01_k».proof.Proof.Gen.ReferenceIdeal.Run
public import Idealize.ShloMosaic.PureOps.Ideal.Laws
public import Idealize.ShloMosaic.Lib.IdealHost
public import Idealize.ShloMosaic.Lib.Pointwise.Reduce
public import Idealize.ShloMosaic.Lib.Quiescent

@[expose] public section

noncomputable section

namespace Cert.ReferenceIdeal.SumOver

open Cert.ReferenceIdeal Cert.ReferenceIdeal.Gen
open Idealize.ShloMosaic Idealize.ShloMosaic.TcCoe
open Idealize.SL.Sem

/-- Element `i` of device `d`'s block, in the whole array. -/
def at4 (d : Fin 4) (i : S1024x1024.Idx) : S2x2x1024x1024.Idx :=
  ValueIdx.ix4 (⟨d.val / 2, by omega⟩ : Fin 2) (⟨d.val % 2, by omega⟩ : Fin 2) (i 0) (i 1)

theorem at4_inj (i : S1024x1024.Idx) : Function.Injective fun d => at4 d i := fun d e he => by
  have h0 : d.val / 2 = e.val / 2 := congrArg Fin.val (congrFun he 0)
  have h1 : d.val % 2 = e.val % 2 := congrArg Fin.val (congrFun he 1)
  exact Fin.ext (by omega)

/-- The four elements that reduce to `i`. -/
theorem drop_iff (i : S1024x1024.Idx) (k : S2x2x1024x1024.Idx) :
    reducesTo_S2x2x1024x1024_S1024x1024_d0_1.drop k = i ↔ ∃ d : Fin 4, at4 d i = k := by
  have e0 : (reducesTo_S2x2x1024x1024_S1024x1024_d0_1.drop k 0).val = (k 2).val := rfl
  have e1 : (reducesTo_S2x2x1024x1024_S1024x1024_d0_1.drop k 1).val = (k 3).val := rfl
  have h0 : (k 0).val < 2 := (k 0).isLt
  have h1 : (k 1).val < 2 := (k 1).isLt
  constructor
  · rintro rfl
    refine ⟨⟨2 * (k 0).val + (k 1).val, by omega⟩, ?_⟩
    funext a
    apply Fin.ext
    fin_cases a
    · show (2 * (k 0).val + (k 1).val) / 2 = (k 0).val
      omega
    · show (2 * (k 0).val + (k 1).val) % 2 = (k 1).val
      omega
    · exact e0
    · exact e1
  · rintro ⟨d, rfl⟩
    funext a
    apply Fin.ext
    fin_cases a
    · exact e0
    · exact e1

/-- What the reference's program computes of `X`. -/
def whole (X : FVec Ideal S2x2x1024x1024 .bf16) : FVec Ideal S1024x1024 .bf16 :=
  truncf .bf16 (Host.reduceAdd (extf .f32 X bitsLt_bf16_f32) (constant S_ .f32 0x00000000#32)
    reducesTo_S2x2x1024x1024_S1024x1024_d0_1 h_S_) bitsLt_bf16_f32

theorem whole_sum (X : FVec Ideal S2x2x1024x1024 .bf16) (i : S1024x1024.Idx) :
    whole X i = ∑ d : Fin 4, (X (at4 d i) : EReal) := by
  show Ideal.hostReduceAdd reducesTo_S2x2x1024x1024_S1024x1024_d0_1 X (Ideal.ofBits .f32 0x00000000#32) i = _
  unfold Ideal.hostReduceAdd
  rw [Ideal.ofBits_zero_f32, zero_add]
  exact Finset.sum_filter_eq_sum_of_fiber _ (fun d => at4 d i) (at4_inj i) (drop_iff i) X

/-- The run: the result, the argument, and every semaphore at zero, of which the program has none. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v2) = whole (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨h, sem_eq_zero_of_no_sems (by decide) r.2⟩) (Value.run m ρ)

end Cert.ReferenceIdeal.SumOver

end
-- ==== Proof.KernelIdeal.Equation.lean ====
/-
# The equation

Where the devices hold their blocks of one array `X`, the kernel's result is the reference's.
-/
module

public import proofs.«01_k».proof.Proof.KernelIdeal.ValueKernel
public import proofs.«01_k».proof.Proof.KernelIdeal.ValueReference
public import Idealize.ShloMosaic.Lib.Layout

@[expose] public section

noncomputable section

namespace Cert.KernelIdeal.AllReduce

open Cert.KernelIdeal Cert.KernelIdeal.Gen
open Idealize.ShloMosaic Idealize.ShloMosaic.TcCoe
open Idealize.SL Idealize.SL.Sem
open Cert.ReferenceIdeal.SumOver (at4 whole whole_sum)

/-- Device `c`'s block of an array, as the claim names it. -/
abbrev part (c : Dev nD) (X : FVec Ideal ⟨4, ![2, 2, 1024, 1024]⟩ .bf16) : FVec Ideal ⟨4, ![1, 1, 1024, 1024]⟩ .bf16 :=
  Layout.blockN ⟨4, ![1, 1, 1024, 1024]⟩ ⟨4, ![2, 2, 1024, 1024]⟩ (Layout.meshBlock [2, 2] ![[0], [1], [], []] c) X

/-- Its elements in the whole array. -/
theorem part_apply (c : Dev nD) (X : FVec Ideal ⟨4, ![2, 2, 1024, 1024]⟩ .bf16) (i : S1024x1024.Idx) :
    part c X (ValueIdx.ix4 (0 : Fin 1) (0 : Fin 1) (i 0) (i 1)) = X (at4 c i) := by
  unfold part
  rw [Layout.blockN_apply]
  congr 1
  have hc : c.val < 4 := c.isLt
  funext a
  apply Fin.ext
  rw [Layout.TilesN.idx_val]
  fin_cases a
  · show Layout.meshLin [2, 2] c.val [0] * 1 + 0 = c.val / 2
    revert c; decide
  · show Layout.meshLin [2, 2] c.val [1] * 1 + 0 = c.val % 2
    revert c; decide
  · show 0 * 1024 + (i 0).val = (i 0).val
    omega
  · show 0 * 1024 + (i 1).val = (i 1).val
    omega

theorem fin_eq (m : (ℓ : Loc nD τ sig) → Buf (Elt Ideal) ℓ) (X : FVec Ideal ⟨4, ![2, 2, 1024, 1024]⟩ .bf16)
    (hm : ∀ c : Dev nD, m ((c : Thread nD τ).loc main_arg0) = part c X) : fin m = whole X := by
  funext i
  rw [fin_sum, whole_sum]
  refine Finset.sum_congr rfl fun d _ => ?_
  rw [hm]
  exact part_apply d X i

end Cert.KernelIdeal.AllReduce

end
-- ==== Proof.lean ====
/-
# The certificate

The five claims, each from a run: the kernel's two programs (the machine's floats and the extended reals) are run by the
same argument, `run_main`; the reference's is its generated run. The value claim joins the two runs by `fin_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Equation
public import Idealize.ShloMosaic.Adequacy
public import Idealize.ShloMosaic.Init

@[expose] public section

noncomputable section

namespace Cert.Proof

open Idealize.ShloMosaic Idealize.SL.Sem

/-- The kernel ends, on every device, with `x` unchanged and every semaphore at zero. -/
theorem frame_kernel : Cert.quiescent_Kernel := fun m g _ =>
  (θ_run Cert.Kernel.defs _ _).mono
    (fun _ h => ⟨fun c => (h.1 c (0 : Fin 2)).trans (Cert.Kernel.AllReduce.kept m g c), h.2⟩)
    (Cert.Kernel.AllReduce.run_main m g)

/-- The same over the extended reals. -/
theorem frame_ideal : Cert.quiescent_KernelIdeal := fun m g _ =>
  (θ_run Cert.KernelIdeal.defs _ _).mono
    (fun _ h => ⟨fun c => (h.1 c (0 : Fin 2)).trans (Cert.KernelIdeal.AllReduce.kept m g c), h.2⟩)
    (Cert.KernelIdeal.AllReduce.run_main m g)

/-- The same of the reference. -/
theorem frame_reference : Cert.quiescent_ReferenceIdeal := fun m g _ =>
  (θ_run Cert.ReferenceIdeal.defs _ _).mono (fun _ h => ⟨fun c => (h.1 c).2, h.2⟩)
    (Cert.ReferenceIdeal.SumOver.run m g)

/-- Every device's result is the reference's sum of the whole array. -/
theorem value : Cert.algebraic_KernelIdeal_ReferenceIdeal := fun m g m' g' _ hm =>
  ⟨Cert.ReferenceIdeal.SumOver.whole (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.KernelIdeal.AllReduce.result m g c)).trans
          (Cert.KernelIdeal.AllReduce.fin_eq m _ hm),
        (h.1 c (0 : Fin 2)).trans (Cert.KernelIdeal.AllReduce.kept m g c)⟩)
      (Cert.KernelIdeal.AllReduce.run_main m g),
    (θ_run Cert.ReferenceIdeal.defs _ _).mono (fun _ h => h.1 0) (Cert.ReferenceIdeal.SumOver.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
